-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S8x16x1024 : Shape := ⟨3, ![8, 16, 1024]⟩
abbrev S1x1024x3072 : Shape := ⟨3, ![1, 1024, 3072]⟩
abbrev S1x3072 : Shape := ⟨2, ![1, 3072]⟩
abbrev S1x3x1024 : Shape := ⟨3, ![1, 3, 1024]⟩
abbrev S1x1024 : Shape := ⟨2, ![1, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x5632 : Shape := ⟨2, ![2, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1x64x1024 : Shape := ⟨3, ![1, 64, 1024]⟩
abbrev S1x512x1024 : Shape := ⟨3, ![1, 512, 1024]⟩
abbrev S1x32x1024 : Shape := ⟨3, ![1, 32, 1024]⟩
abbrev S1x16x1024 : Shape := ⟨3, ![1, 16, 1024]⟩
abbrev S560x1024 : Shape := ⟨2, ![560, 1024]⟩
abbrev S544x1024 : Shape := ⟨2, ![544, 1024]⟩
abbrev S2x544x256 : Shape := ⟨3, ![2, 544, 256]⟩
abbrev S528x2816 : Shape := ⟨2, ![528, 2816]⟩
abbrev S16x1024 : Shape := ⟨2, ![16, 1024]⟩
abbrev S2x560x256 : Shape := ⟨3, ![2, 560, 256]⟩
abbrev S1024x3072 : Shape := ⟨2, ![1024, 3072]⟩
abbrev S1024x1024 : Shape := ⟨2, ![1024, 1024]⟩
abbrev S1024x5632 : Shape := ⟨2, ![1024, 5632]⟩
abbrev S2816x1024 : Shape := ⟨2, ![2816, 1024]⟩
abbrev S5x128x3072 : Shape := ⟨3, ![5, 128, 3072]⟩
abbrev S5 : Shape := ⟨1, ![5]⟩
abbrev S1 : Shape := ⟨1, ![1]⟩
abbrev S_ : Shape := ⟨0, ![]⟩
abbrev S1x128x3072 : Shape := ⟨3, ![1, 128, 3072]⟩
abbrev S128x3072 : Shape := ⟨2, ![128, 3072]⟩
abbrev S5x256x1024 : Shape := ⟨3, ![5, 256, 1024]⟩
abbrev S1x256x1024 : Shape := ⟨3, ![1, 256, 1024]⟩
abbrev S256x1024 : Shape := ⟨2, ![256, 1024]⟩
abbrev S5x64x5632 : Shape := ⟨3, ![5, 64, 5632]⟩
abbrev S1x64x5632 : Shape := ⟨3, ![1, 64, 5632]⟩
abbrev S64x5632 : Shape := ⟨2, ![64, 5632]⟩
abbrev S5x352x1024 : Shape := ⟨3, ![5, 352, 1024]⟩
abbrev S1x352x1024 : Shape := ⟨3, ![1, 352, 1024]⟩
abbrev S352x1024 : Shape := ⟨2, ![352, 1024]⟩
abbrev S32x1024 : Shape := ⟨2, ![32, 1024]⟩
abbrev S512x1024 : Shape := ⟨2, ![512, 1024]⟩
abbrev S560x1 : Shape := ⟨2, ![560, 1]⟩
abbrev S1024x256 : Shape := ⟨2, ![1024, 256]⟩
abbrev S560x256 : Shape := ⟨2, ![560, 256]⟩
abbrev S1x256 : Shape := ⟨2, ![1, 256]⟩
abbrev S1x560x256 : Shape := ⟨3, ![1, 560, 256]⟩
abbrev S544x256 : Shape := ⟨2, ![544, 256]⟩
abbrev S3x1024 : Shape := ⟨2, ![3, 1024]⟩
abbrev S528x1024 : Shape := ⟨2, ![528, 1024]⟩
abbrev S544x1 : Shape := ⟨2, ![544, 1]⟩
abbrev S1x5632 : Shape := ⟨2, ![1, 5632]⟩
abbrev S1x544x256 : Shape := ⟨3, ![1, 544, 256]⟩
abbrev S528x256 : Shape := ⟨2, ![528, 256]⟩
abbrev S1x3x2816 : Shape := ⟨3, ![1, 3, 2816]⟩
abbrev S3x2816 : Shape := ⟨2, ![3, 2816]⟩
abbrev S1x2816 : Shape := ⟨2, ![1, 2816]⟩
abbrev S256x2816 : Shape := ⟨2, ![256, 2816]⟩
abbrev S16 : Shape := ⟨1, ![16]⟩
abbrev S16x1 : Shape := ⟨2, ![16, 1]⟩
abbrev S272x2816 : Shape := ⟨2, ![272, 2816]⟩
abbrev S272x1024 : Shape := ⟨2, ![272, 1024]⟩

abbrev nBuf : Space → Nat
  | .hbm => 19
  | .vmem => 38
  | .smem => 0
  | _ => 0

abbrev bufTy : (tb : Table) → Fin (tcTables nBuf tb) → BufTy
  | .hbm, ⟨0, _⟩ => ⟨S8x2048x1024, .f32⟩
  | .hbm, ⟨1, _⟩ => ⟨S8x16x1024, .f32⟩
  | .hbm, ⟨2, _⟩ => ⟨S1x1024x3072, .f32⟩
  | .hbm, ⟨3, _⟩ => ⟨S1x3072, .f32⟩
  | .hbm, ⟨4, _⟩ => ⟨S1x3x1024, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S2x1024, .f32⟩
  | .hbm, ⟨9, _⟩ => ⟨S2x1024, .f32⟩
  | .hbm, ⟨10, _⟩ => ⟨S2x1024x5632, .f32⟩
  | .hbm, ⟨11, _⟩ => ⟨S2x5632, .f32⟩
  | .hbm, ⟨12, _⟩ => ⟨S2x3x2816, .f32⟩
  | .hbm, ⟨13, _⟩ => ⟨S2x2816, .f32⟩
  | .hbm, ⟨14, _⟩ => ⟨S2x2816x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S8x2048x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x3072, .f32⟩
  | .local _ .vmem, ⟨9, _⟩ => ⟨S1x3x1024, .f32⟩
  | .local _ .vmem, ⟨10, _⟩ => ⟨S1x1024, .f32⟩
  | .local _ .vmem, ⟨11, _⟩ => ⟨S1x1024, .f32⟩
  | .local _ .vmem, ⟨12, _⟩ => ⟨S2x1024, .f32⟩
  | .local _ .vmem, ⟨13, _⟩ => ⟨S2x1024, .f32⟩
  | .local _ .vmem, ⟨14, _⟩ => ⟨S2x5632, .f32⟩
  | .local _ .vmem, ⟨15, _⟩ => ⟨S2x3x2816, .f32⟩
  | .local _ .vmem, ⟨16, _⟩ => ⟨S2x2816, .f32⟩
  | .local _ .vmem, ⟨17, _⟩ => ⟨S2x1024, .f32⟩
  | .local _ .vmem, ⟨18, _⟩ => ⟨S2x1024, .f32⟩
  | .local _ .vmem, ⟨19, _⟩ => ⟨S2x1024, .f32⟩
  | .local _ .vmem, ⟨20, _⟩ => ⟨S1x512x1024, .f32⟩
  | .local _ .vmem, ⟨21, _⟩ => ⟨S1x512x1024, .f32⟩
  | .local _ .vmem, ⟨22, _⟩ => ⟨S560x1024, .f32⟩
  | .local _ .vmem, ⟨23, _⟩ => ⟨S544x1024, .f32⟩
  | .local _ .vmem, ⟨24, _⟩ => ⟨S544x1024, .f32⟩
  | .local _ .vmem, ⟨25, _⟩ => ⟨S2x544x256, .f32⟩
  | .local _ .vmem, ⟨26, _⟩ => ⟨S528x2816, .bf16⟩
  | .local _ .vmem, ⟨27, _⟩ => ⟨S16x1024, .f32⟩
  | .local _ .vmem, ⟨28, _⟩ => ⟨S2x560x256, .f32⟩
  | .local _ .vmem, ⟨29, _⟩ => ⟨S544x1024, .bf16⟩
  | .local _ .vmem, ⟨30, _⟩ => ⟨S1024x3072, .bf16⟩
  | .local _ .vmem, ⟨31, _⟩ => ⟨S1024x1024, .bf16⟩
  | .local _ .vmem, ⟨32, _⟩ => ⟨S1024x5632, .bf16⟩
  | .local _ .vmem, ⟨33, _⟩ => ⟨S2816x1024, .bf16⟩
  | .local _ .vmem, ⟨34, _⟩ => ⟨S5x128x3072, .f32⟩
  | .local _ .vmem, ⟨35, _⟩ => ⟨S5x256x1024, .f32⟩
  | .local _ .vmem, ⟨36, _⟩ => ⟨S5x64x5632, .f32⟩
  | .local _ .vmem, ⟨37, _⟩ => ⟨S5x352x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scoped0 : Ref sig .tc := ⟨.vmem, 34, rfl⟩
abbrev cc0_scoped2 : Ref sig .tc := ⟨.vmem, 35, rfl⟩
abbrev cc0_scoped4 : Ref sig .tc := ⟨.vmem, 36, rfl⟩
abbrev cc0_scoped6 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c8_i32 : BitVec 32 := 8#32
  let v28 : BitVec 32 := Scalar.muli v27 c8_i32
  let c1_i32_9 : BitVec 32 := 1#32
  let v29 : BitVec 32 := Scalar.subi v28 c1_i32_9
  let c0_i32_10 : BitVec 32 := 0#32
  let v30 : BitVec 32 := Scalar.maxsi v29 c0_i32_10
  let c0_i32_11 : BitVec 32 := 0#32
  let c0_i32_12 : BitVec 32 := 0#32
  ![v17.toNat, v30.toNat, c0_i32_11.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  let c0_i32_10 : BitVec 32 := 0#32
  ![v17.toNat, v27.toNat, c0_i32_9.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c1_i32_9 : BitVec 32 := 1#32
  let v28 : BitVec 32 := Scalar.addi v27 c1_i32_9
  let c16_i32 : BitVec 32 := 16#32
  let v29 : BitVec 32 := Scalar.muli v28 c16_i32
  let c63_i32 : BitVec 32 := 63#32
  let v30 : BitVec 32 := Scalar.minsi v29 c63_i32
  let c0_i32_10 : BitVec 32 := 0#32
  let c0_i32_11 : BitVec 32 := 0#32
  ![v17.toNat, v30.toNat, c0_i32_10.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  let c0_i32_10 : BitVec 32 := 0#32
  let c0_i32_11 : BitVec 32 := 0#32
  ![v17.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 1 := Scalar.cmpi .eq c4_i32 c0_i32_6
  let c1_i32_7 : BitVec 32 := 1#32
  let v20 : BitVec 32 := Scalar.select v19 c1_i32_7 c4_i32
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8x2048x1024 : Shape := ⟨3, ![8, 2048, 1024]⟩
abbrev S8x16x1024 : Shape := ⟨3, ![8, 16, 1024]⟩
abbrev S1x1024x3072 : Shape := ⟨3, ![1, 1024, 3072]⟩
abbrev S1x3072 : Shape := ⟨2, ![1, 3072]⟩
abbrev S1x3x1024 : Shape := ⟨3, ![1, 3, 1024]⟩
abbrev S1x1024 : Shape := ⟨2, ![1, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x5632 : Shape := ⟨2, ![2, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S8x2064x1024 : Shape := ⟨3, ![8, 2064, 1024]⟩
abbrev S1024x3072 : Shape := ⟨2, ![1024, 3072]⟩
abbrev S3072 : Shape := ⟨1, ![3072]⟩
abbrev S3x1024 : Shape := ⟨2, ![3, 1024]⟩
abbrev S1024 : Shape := ⟨1, ![1024]⟩
abbrev S1024x1024 : Shape := ⟨2, ![1024, 1024]⟩
abbrev S8x2064x3072 : Shape := ⟨3, ![8, 2064, 3072]⟩
abbrev S1x1x3072 : Shape := ⟨3, ![1, 1, 3072]⟩
abbrev S_ : Shape := ⟨0, ![]⟩
abbrev S8x2066x1024 : Shape := ⟨3, ![8, 2066, 1024]⟩
abbrev S1x1x1024 : Shape := ⟨3, ![1, 1, 1024]⟩
abbrev S8x2064 : Shape := ⟨2, ![8, 2064]⟩
abbrev S8x2064x1 : Shape := ⟨3, ![8, 2064, 1]⟩
abbrev S1x1024x5632 : Shape := ⟨3, ![1, 1024, 5632]⟩
abbrev S1024x5632 : Shape := ⟨2, ![1024, 5632]⟩
abbrev S1x5632 : Shape := ⟨2, ![1, 5632]⟩
abbrev S5632 : Shape := ⟨1, ![5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x2064x5632 : Shape := ⟨3, ![8, 2064, 5632]⟩
abbrev S1x1x5632 : Shape := ⟨3, ![1, 1, 5632]⟩
abbrev S8x2064x2816 : Shape := ⟨3, ![8, 2064, 2816]⟩
abbrev S8x2066x2816 : Shape := ⟨3, ![8, 2066, 2816]⟩
abbrev S1x1x2816 : Shape := ⟨3, ![1, 1, 2816]⟩

abbrev nBuf : Space → Nat
  | .hbm => 197
  | .vmem => 0
  | .smem => 0
  | _ => 0

abbrev hbmTy0_0 (i : Nat) : BufTy := match i % 128 with
  | 0 => ⟨S8x2048x1024, .f32⟩
  | 1 => ⟨S8x16x1024, .f32⟩
  | 2 => ⟨S1x1024x3072, .f32⟩
  | 3 => ⟨S1x3072, .f32⟩
  | 4 => ⟨S1x3x1024, .f32⟩
  | 5 => ⟨S1x1024, .f32⟩
  | 6 => ⟨S1x1024x1024, .f32⟩
  | 7 => ⟨S1x1024, .f32⟩
  | 8 => ⟨S2x1024, .f32⟩
  | 9 => ⟨S2x1024, .f32⟩
  | 10 => ⟨S2x1024x5632, .f32⟩
  | 11 => ⟨S2x5632, .f32⟩
  | 12 => ⟨S2x3x2816, .f32⟩
  | 13 => ⟨S2x2816, .f32⟩
  | 14 => ⟨S2x2816x1024, .f32⟩
  | 15 => ⟨S2x1024, .f32⟩
  | 16 => ⟨S2x1024, .f32⟩
  | 17 => ⟨S2x1024, .f32⟩
  | 18 => ⟨S8x2064x1024, .f32⟩
  | 19 => ⟨S1024x3072, .f32⟩
  | 20 => ⟨S3072, .f32⟩
  | 21 => ⟨S3x1024, .f32⟩
  | 22 => ⟨S1024, .f32⟩
  | 23 => ⟨S1024x1024, .f32⟩
  | 24 => ⟨S1024, .f32⟩
  | 25 => ⟨S8x2064x3072, .f32⟩
  | 26 => ⟨S1x1x3072, .f32⟩
  | 27 => ⟨S8x2064x3072, .f32⟩
  | 28 => ⟨S8x2064x3072, .f32⟩
  | 29 => ⟨S8x2064x1024, .f32⟩
  | 30 => ⟨S8x2064x1024, .f32⟩
  | 31 => ⟨S8x2064x1024, .f32⟩
  | 32 => ⟨S8x2064x1024, .f32⟩
  | 33 => ⟨S_, .i32⟩
  | 34 => ⟨S_, .f32⟩
  | 35 => ⟨S8x2066x1024, .f32⟩
  | 36 => ⟨S8x2064x1024, .f32⟩
  | 37 => ⟨S1x1024, .f32⟩
  | 38 => ⟨S1024, .f32⟩
  | 39 => ⟨S1x1x1024, .f32⟩
  | 40 => ⟨S8x2064x1024, .f32⟩
  | 41 => ⟨S8x2064x1024, .f32⟩
  | 42 => ⟨S8x2064x1024, .f32⟩
  | 43 => ⟨S1x1024, .f32⟩
  | 44 => ⟨S1024, .f32⟩
  | 45 => ⟨S1x1x1024, .f32⟩
  | 46 => ⟨S8x2064x1024, .f32⟩
  | 47 => ⟨S8x2064x1024, .f32⟩
  | 48 => ⟨S8x2064x1024, .f32⟩
  | 49 => ⟨S8x2064x1024, .f32⟩
  | 50 => ⟨S1x1024, .f32⟩
  | 51 => ⟨S1024, .f32⟩
  | 52 => ⟨S1x1x1024, .f32⟩
  | 53 => ⟨S8x2064x1024, .f32⟩
  | 54 => ⟨S8x2064x1024, .f32⟩
  | 55 => ⟨S8x2064x1024, .f32⟩
  | 56 => ⟨S1x1x1024, .f32⟩
  | 57 => ⟨S8x2064x1024, .f32⟩
  | 58 => ⟨S8x2064x1024, .f32⟩
  | 59 => ⟨S8x2064x1024, .f32⟩
  | 60 => ⟨S8x2064x1024, .f32⟩
  | 61 => ⟨S1x1x1024, .f32⟩
  | 62 => ⟨S8x2064x1024, .f32⟩
  | 63 => ⟨S8x2064x1024, .f32⟩
  | 64 => ⟨S_, .f32⟩
  | 65 => ⟨S8x2064x1024, .f32⟩
  | 66 => ⟨S8x2064x1024, .f32⟩
  | 67 => ⟨S8x2064x1024, .f32⟩
  | 68 => ⟨S1x1024, .f32⟩
  | 69 => ⟨S1024, .f32⟩
  | 70 => ⟨S1x1024, .f32⟩
  | 71 => ⟨S1024, .f32⟩
  | 72 => ⟨S_, .f32⟩
  | 73 => ⟨S8x2064, .f32⟩
  | 74 => ⟨S8x2064x1, .f32⟩
  | 75 => ⟨S_, .f32⟩
  | 76 => ⟨S8x2064x1, .f32⟩
  | 77 => ⟨S8x2064x1, .f32⟩
  | 78 => ⟨S8x2064x1024, .f32⟩
  | 79 => ⟨S8x2064x1024, .f32⟩
  | 80 => ⟨S8x2064x1024, .f32⟩
  | 81 => ⟨S_, .f32⟩
  | 82 => ⟨S8x2064, .f32⟩
  | 83 => ⟨S8x2064x1, .f32⟩
  | 84 => ⟨S_, .f32⟩
  | 85 => ⟨S8x2064x1, .f32⟩
  | 86 => ⟨S8x2064x1, .f32⟩
  | 87 => ⟨S8x2064x1024, .f32⟩
  | 88 => ⟨S8x2064x1024, .f32⟩
  | 89 => ⟨S_, .f32⟩
  | 90 => ⟨S8x2064x1, .f32⟩
  | 91 => ⟨S8x2064x1, .f32⟩
  | 92 => ⟨S8x2064x1, .f32⟩
  | 93 => ⟨S8x2064x1024, .f32⟩
  | 94 => ⟨S8x2064x1024, .f32⟩
  | 95 => ⟨S1x1x1024, .f32⟩
  | 96 => ⟨S8x2064x1024, .f32⟩
  | 97 => ⟨S8x2064x1024, .f32⟩
  | 98 => ⟨S1x1x1024, .f32⟩
  | 99 => ⟨S8x2064x1024, .f32⟩
  | 100 => ⟨S8x2064x1024, .f32⟩
  | 101 => ⟨S1x1024x5632, .f32⟩
  | 102 => ⟨S1024x5632, .f32⟩
  | 103 => ⟨S1x5632, .f32⟩
  | 104 => ⟨S5632, .f32⟩
  | 105 => ⟨S1x3x2816, .f32⟩
  | 106 => ⟨S3x2816, .f32⟩
  | 107 => ⟨S1x2816, .f32⟩
  | 108 => ⟨S2816, .f32⟩
  | 109 => ⟨S1x2816x1024, .f32⟩
  | 110 => ⟨S2816x1024, .f32⟩
  | 111 => ⟨S1x1024, .f32⟩
  | 112 => ⟨S1024, .f32⟩
  | 113 => ⟨S8x2064x5632, .f32⟩
  | 114 => ⟨S1x1x5632, .f32⟩
  | 115 => ⟨S8x2064x5632, .f32⟩
  | 116 => ⟨S8x2064x5632, .f32⟩
  | 117 => ⟨S8x2064x2816, .f32⟩
  | 118 => ⟨S8x2064x2816, .f32⟩
  | 119 => ⟨S_, .i32⟩
  | 120 => ⟨S_, .f32⟩
  | 121 => ⟨S8x2066x2816, .f32⟩
  | 122 => ⟨S8x2064x2816, .f32⟩
  | 123 => ⟨S1x2816, .f32⟩
  | 124 => ⟨S2816, .f32⟩
  | 125 => ⟨S1x1x2816, .f32⟩
  | 126 => ⟨S8x2064x2816, .f32⟩
  | 127 => ⟨S8x2064x2816, .f32⟩
  | _ => ⟨S8x2048x1024, .f32⟩

abbrev hbmTy0_1 (i : Nat) : BufTy := match i % 128 with
  | 0 => ⟨S8x2064x2816, .f32⟩
  | 1 => ⟨S1x2816, .f32⟩
  | 2 => ⟨S2816, .f32⟩
  | 3 => ⟨S1x1x2816, .f32⟩
  | 4 => ⟨S8x2064x2816, .f32⟩
  | 5 => ⟨S8x2064x2816, .f32⟩
  | 6 => ⟨S8x2064x2816, .f32⟩
  | 7 => ⟨S8x2064x2816, .f32⟩
  | 8 => ⟨S1x2816, .f32⟩
  | 9 => ⟨S2816, .f32⟩
  | 10 => ⟨S1x1x2816, .f32⟩
  | 11 => ⟨S8x2064x2816, .f32⟩
  | 12 => ⟨S8x2064x2816, .f32⟩
  | 13 => ⟨S8x2064x2816, .f32⟩
  | 14 => ⟨S1x1x2816, .f32⟩
  | 15 => ⟨S8x2064x2816, .f32⟩
  | 16 => ⟨S8x2064x2816, .f32⟩
  | 17 => ⟨S8x2064x2816, .f32⟩
  | 18 => ⟨S8x2064x2816, .f32⟩
  | 19 => ⟨S_, .f32⟩
  | 20 => ⟨S8x2064x2816, .f32⟩
  | 21 => ⟨S8x2064x2816, .f32⟩
  | 22 => ⟨S_, .f32⟩
  | 23 => ⟨S8x2064x2816, .f32⟩
  | 24 => ⟨S8x2064x2816, .f32⟩
  | 25 => ⟨S8x2064x2816, .f32⟩
  | 26 => ⟨S8x2064x2816, .f32⟩
  | 27 => ⟨S8x2064x1024, .f32⟩
  | 28 => ⟨S1x1x1024, .f32⟩
  | 29 => ⟨S8x2064x1024, .f32⟩
  | 30 => ⟨S8x2064x1024, .f32⟩
  | 31 => ⟨S_, .f32⟩
  | 32 => ⟨S8x2064x1024, .f32⟩
  | 33 => ⟨S8x2064x1024, .f32⟩
  | 34 => ⟨S8x2064x1024, .f32⟩
  | 35 => ⟨S1x1024, .f32⟩
  | 36 => ⟨S1024, .f32⟩
  | 37 => ⟨S1x1024, .f32⟩
  | 38 => ⟨S1024, .f32⟩
  | 39 => ⟨S_, .f32⟩
  | 40 => ⟨S8x2064, .f32⟩
  | 41 => ⟨S8x2064x1, .f32⟩
  | 42 => ⟨S_, .f32⟩
  | 43 => ⟨S8x2064x1, .f32⟩
  | 44 => ⟨S8x2064x1, .f32⟩
  | 45 => ⟨S8x2064x1024, .f32⟩
  | 46 => ⟨S8x2064x1024, .f32⟩
  | 47 => ⟨S8x2064x1024, .f32⟩
  | 48 => ⟨S_, .f32⟩
  | 49 => ⟨S8x2064, .f32⟩
  | 50 => ⟨S8x2064x1, .f32⟩
  | 51 => ⟨S_, .f32⟩
  | 52 => ⟨S8x2064x1, .f32⟩
  | 53 => ⟨S8x2064x1, .f32⟩
  | 54 => ⟨S8x2064x1024, .f32⟩
  | 55 => ⟨S8x2064x1024, .f32⟩
  | 56 => ⟨S_, .f32⟩
  | 57 => ⟨S8x2064x1, .f32⟩
  | 58 => ⟨S8x2064x1, .f32⟩
  | 59 => ⟨S8x2064x1, .f32⟩
  | 60 => ⟨S8x2064x1024, .f32⟩
  | 61 => ⟨S8x2064x1024, .f32⟩
  | 62 => ⟨S1x1x1024, .f32⟩
  | 63 => ⟨S8x2064x1024, .f32⟩
  | 64 => ⟨S8x2064x1024, .f32⟩
  | 65 => ⟨S1x1x1024, .f32⟩
  | 66 => ⟨S8x2064x1024, .f32⟩
  | 67 => ⟨S8x2064x1024, .f32⟩
  | 68 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_0 : Ref sig .tc := ⟨.hbm, 72, rfl⟩
abbrev main_v51 : Ref sig .tc := ⟨.hbm, 73, rfl⟩
abbrev main_v52 : Ref sig .tc := ⟨.hbm, 74, rfl⟩
abbrev main_cst_1 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_2 : Ref sig .tc := ⟨.hbm, 81, rfl⟩
abbrev main_v58 : Ref sig .tc := ⟨.hbm, 82, rfl⟩
abbrev main_v59 : Ref sig .tc := ⟨.hbm, 83, rfl⟩
abbrev main_cst_3 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_4 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_5 : Ref sig .tc := ⟨.hbm, 119, rfl⟩
abbrev main_call1_v0 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_call2_v0 : Ref sig .tc := ⟨.hbm, 145, rfl⟩
abbrev main_call2_v1 : Ref sig .tc := ⟨.hbm, 146, rfl⟩
abbrev main_call2_cst : Ref sig .tc := ⟨.hbm, 147, rfl⟩
abbrev main_call2_v2 : Ref sig .tc := ⟨.hbm, 148, rfl⟩
abbrev main_call2_v3 : Ref sig .tc := ⟨.hbm, 149, rfl⟩
abbrev main_call2_cst_0 : Ref sig .tc := ⟨.hbm, 150, rfl⟩
abbrev main_call2_v4 : Ref sig .tc := ⟨.hbm, 151, rfl⟩
abbrev main_call2_v5 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_6 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_7 : Ref sig .tc := ⟨.hbm, 167, rfl⟩
abbrev main_v130 : Ref sig .tc := ⟨.hbm, 168, rfl⟩
abbrev main_v131 : Ref sig .tc := ⟨.hbm, 169, rfl⟩
abbrev main_cst_8 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_9 : Ref sig .tc := ⟨.hbm, 176, rfl⟩
abbrev main_v137 : Ref sig .tc := ⟨.hbm, 177, rfl⟩
abbrev main_v138 : Ref sig .tc := ⟨.hbm, 178, rfl⟩
abbrev main_cst_10 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_11 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩

abbrev nD : Nat := 1
abbrev τ : Topo := Topo.v7x

variable {F : FTy → Type} [FloatOps F]
-- ==== Proof.Recut.lean ====
/-
  The kernel's body cut into the pieces it is made of: the padded tile assembled in scratch, one step for each chunk of
  256 columns of the mixer, one for each chunk of the feed forward, one for each block of 16 rows of the two layer
  norms, and at the first grid point one ring of copies for each of the four weights. Each piece is one definition over
  its chunk number, so a fact about a piece is proved once.
-/
module

public import proofs.«01_k».proof.Proof.Gen.KernelIdeal.Skeleton

@[expose] public section

set_option maxRecDepth 16384
set_option synthInstance.maxSize 4096

noncomputable section

namespace Cert.Proof

open Cert.KernelIdeal Cert.KernelIdeal.Gen
open Idealize.ShloMosaic Idealize.SL.Sem

variable {F : FTy → Type} [FloatOps F]

/-- Programs of the kernel's core. -/
abbrev P (F : FTy → Type) [FloatOps F] : Type → Type 1 := Prog (TpuEff nD τ sig (Elt F) Λ₀ .tc)

/-- The buffers of one call of the body: the staged blocks (1–16), the four weights in HBM (17–20), the staged result
    (21), the scratch buffers (22–33) and the four staging rings with their semaphores. -/
structure Bufs where
  (a1 : Memref sig .tc .vmem S1x64x1024 .f32) (h1 : a1.IsWhole)
  (a2 : Memref sig .tc .vmem S1x512x1024 .f32) (h2 : a2.IsWhole)
  (a3 : Memref sig .tc .vmem S1x32x1024 .f32) (h3 : a3.IsWhole)
  (a4 : Memref sig .tc .vmem S1x16x1024 .f32) (h4 : a4.IsWhole)
  (a5 : Memref sig .tc .vmem S1x3072 .f32) (h5 : a5.IsWhole)
  (a6 : Memref sig .tc .vmem S1x3x1024 .f32) (h6 : a6.IsWhole)
  (a7 : Memref sig .tc .vmem S1x1024 .f32) (h7 : a7.IsWhole)
  (a8 : Memref sig .tc .vmem S1x1024 .f32) (h8 : a8.IsWhole)
  (a9 : Memref sig .tc .vmem S2x1024 .f32) (h9 : a9.IsWhole)
  (a10 : Memref sig .tc .vmem S2x1024 .f32) (h10 : a10.IsWhole)
  (a11 : Memref sig .tc .vmem S2x5632 .f32) (h11 : a11.IsWhole)
  (a12 : Memref sig .tc .vmem S2x3x2816 .f32) (h12 : a12.IsWhole)
  (a13 : Memref sig .tc .vmem S2x2816 .f32) (h13 : a13.IsWhole)
  (a14 : Memref sig .tc .vmem S2x1024 .f32) (h14 : a14.IsWhole)
  (a15 : Memref sig .tc .vmem S2x1024 .f32) (h15 : a15.IsWhole)
  (a16 : Memref sig .tc .vmem S2x1024 .f32) (h16 : a16.IsWhole)
  (a17 : Memref sig .tc .hbm S1x1024x3072 .f32) (h17 : a17.IsWhole)
  (a18 : Memref sig .tc .hbm S1x1024x1024 .f32) (h18 : a18.IsWhole)
  (a19 : Memref sig .tc .hbm S2x1024x5632 .f32) (h19 : a19.IsWhole)
  (a20 : Memref sig .tc .hbm S2x2816x1024 .f32) (h20 : a20.IsWhole)
  (a21 : Memref sig .tc .vmem S1x512x1024 .f32) (h21 : a21.IsWhole)
  (a22 : Memref sig .tc .vmem S560x1024 .f32) (h22 : a22.IsWhole)
  (a23 : Memref sig .tc .vmem S544x1024 .f32) (h23 : a23.IsWhole)
  (a24 : Memref sig .tc .vmem S544x1024 .f32) (h24 : a24.IsWhole)
  (a25 : Memref sig .tc .vmem S2x544x256 .f32) (h25 : a25.IsWhole)
  (a26 : Memref sig .tc .vmem S528x2816 .bf16) (h26 : a26.IsWhole)
  (a27 : Memref sig .tc .vmem S16x1024 .f32) (h27 : a27.IsWhole)
  (a28 : Memref sig .tc .vmem S2x560x256 .f32) (h28 : a28.IsWhole)
  (a29 : Memref sig .tc .vmem S544x1024 .bf16) (h29 : a29.IsWhole)
  (a30 : Memref sig .tc .vmem S1024x3072 .bf16) (h30 : a30.IsWhole)
  (a31 : Memref sig .tc .vmem S1024x1024 .bf16) (h31 : a31.IsWhole)
  (a32 : Memref sig .tc .vmem S1024x5632 .bf16) (h32 : a32.IsWhole)
  (a33 : Memref sig .tc .vmem S2816x1024 .bf16) (h33 : a33.IsWhole)
  (r0 : Memref sig .tc .vmem S5x128x3072 .f32) (hr0 : r0.IsWhole) (m0 : DmaSems sig S5)
  (r1 : Memref sig .tc .vmem S5x256x1024 .f32) (hr1 : r1.IsWhole) (m1 : DmaSems sig S5)
  (r2 : Memref sig .tc .vmem S5x64x5632 .f32) (hr2 : r2.IsWhole) (m2 : DmaSems sig S5)
  (r3 : Memref sig .tc .vmem S5x352x1024 .f32) (hr3 : r3.IsWhole) (m3 : DmaSems sig S5)

/-- The printed body on a record of buffers. -/
def body (i : grid0.Coords) (B : Bufs) : P F PUnit :=
  cc0_layer_c i B.a1 B.h1 B.a2 B.h2 B.a3 B.h3 B.a4 B.h4 B.a5 B.h5 B.a6 B.h6 B.a7 B.h7 B.a8 B.h8 B.a9 B.h9 B.a10 B.h10
    B.a11 B.h11 B.a12 B.h12 B.a13 B.h13 B.a14 B.h14 B.a15 B.h15 B.a16 B.h16 B.a17 B.h17 B.a18 B.h18 B.a19 B.h19
    B.a20 B.h20 B.a21 B.h21 B.a22 B.h22 B.a23 B.h23 B.a24 B.h24 B.a25 B.h25 B.a26 B.h26 B.a27 B.h27 B.a28 B.h28
    B.a29 B.h29 B.a30 B.h30 B.a31 B.h31 B.a32 B.h32 B.a33 B.h33 B.r0 B.hr0 B.m0 B.r1 B.hr1 B.m1 B.r2 B.hr2 B.m2
    B.r3 B.hr3 B.m3

/-! ### Loads, stores and loops -/

/-- A load of the box of sizes `size` at offsets `off`. -/
def ld {s : Shape} {e : EltTy} (m : Memref sig .tc .vmem s e) (off size : Fin s.rank → ℕ)
    (inb : ∀ a, off a + size a ≤ s.size a) (hn : 0 < (⟨s.rank, size⟩ : Shape).numel) :
    P F ((⟨s.rank, size⟩ : Shape).Idx → Elt F e) :=
  Prog.lift (.load m (Rect.unit (s := s) off size inb).toLoadRect (View.loadsAt_vmem hn))

/-- An unmasked store of a box of 32-bit values. -/
def stF {s : Shape} (m : Memref sig .tc .vmem s .f32) (off size : Fin s.rank → ℕ)
    (inb : ∀ a, off a + size a ≤ s.size a) (hn : 0 < (⟨s.rank, size⟩ : Shape).numel)
    (w : (⟨s.rank, size⟩ : Shape).Idx → Elt F .f32) : P F PUnit :=
  Prog.lift (.store m (Rect.unit (s := s) off size inb) w Finset.univ (View.stores_vmem_bits_univ hn rfl) (.inl rfl))

/-- An unmasked store of a box of 16-bit values whose rows fill whole words. -/
def stH {s : Shape} (m : Memref sig .tc .vmem s .bf16) (hm : m.IsWhole) (off size : Fin s.rank → ℕ)
    (inb : ∀ a, off a + size a ≤ s.size a) (hn : 0 < (⟨s.rank, size⟩ : Shape).numel)
    (hp : (Rect.unit (s := s) off size inb).PackedRows (EltTy.packing .bf16))
    (w : (⟨s.rank, size⟩ : Shape).Idx → Elt F .bf16) : P F PUnit :=
  Prog.lift (.store m (Rect.unit (s := s) off size inb) w Finset.univ
    (View.stores_vmem hn (hm.storeExact_slice rfl _ hp) (fun _ => rfl)) (.inl rfl))

/-- The steps `f j`, …, `f (j + n - 1)` in order. -/
def steps (f : ℕ → P F PUnit) : ℕ → ℕ → P F PUnit
  | _, 0 => .ret ⟨⟩
  | j, n + 1 => f j >>= fun _ => steps f (j + 1) n

/-- The steps `f 0`, …, `f (n - 1)` in order. -/
abbrev loop (f : ℕ → P F PUnit) (n : ℕ) : P F PUnit := steps f 0 n

theorem inb2 {o p a b n m : ℕ} (h : o + a ≤ n) (h' : p + b ≤ m) :
    ∀ i : Fin 2, (![o, p] : Fin 2 → ℕ) i + (![a, b] : Fin 2 → ℕ) i ≤ (![n, m] : Fin 2 → ℕ) i := by
  intro i; fin_cases i
  · exact h
  · exact h'

theorem inb3 {o p q a b c n m l : ℕ} (h : o + a ≤ n) (h' : p + b ≤ m) (h'' : q + c ≤ l) :
    ∀ i : Fin 3, (![o, p, q] : Fin 3 → ℕ) i + (![a, b, c] : Fin 3 → ℕ) i ≤ (![n, m, l] : Fin 3 → ℕ) i := by
  intro i; fin_cases i
  · exact h
  · exact h'
  · exact h''

/-- A box that starts and ends at an even row fills whole words. -/
theorem packed2 {o p a b n m : ℕ} (inb : ∀ i : Fin 2, (![o, p] : Fin 2 → ℕ) i + (![a, b] : Fin 2 → ℕ) i ≤ (![n, m] : Fin 2 → ℕ) i)
    (h : 2 ∣ o) (h' : 2 ∣ a) :
    (Rect.unit (s := ⟨2, ![n, m]⟩) ![o, p] ![a, b] inb).PackedRows (EltTy.packing .bf16) :=
  .inr ⟨le_refl 2, rfl, .inl ⟨h, h'⟩⟩

/-! ### The values each piece computes -/

/-- Which rows of a tile of `560` rows starting at sequence position `p - 32` are in the sequence. -/
abbrev okX (v1 : BitVec 32) : IVec S560x1 1 := k0_pay50 v1

/-- The gated product of a chunk of the mixer, zero outside the sequence. -/
def mixS (ok : IVec S560x1 1) (xb : FVec F S560x1024 .bf16) (w : Vec F S1024x256 .bf16) (b : Vec F S1x256 .f32)
    (w' : Vec F S1024x256 .bf16) (b' : Vec F S1x256 .f32) : FVec F S1x560x256 .f32 :=
  shapeCast S1x560x256
    (select (broadcastTo S560x256 (shapeCast S560x1 ok shapeCasts_S560x1_S560x1) broadcasts_S560x1_S560x256)
      (mulf
        (addf (matmul dot_S560x1024_S1024x256_S560x256_1_0_0_1_n_n none xb w (constant S560x256 .f32 0x00000000#32))
          (broadcastTo S560x256 b broadcasts_S1x256_S560x256))
        (addf (matmul dot_S560x1024_S1024x256_S560x256_1_0_0_1_n_n none xb w' (constant S560x256 .f32 0x00000000#32))
          (broadcastTo S560x256 b' broadcasts_S1x256_S560x256)))
      (broadcast S560x256 (Scalar.ofBits .f32 0x00000000#32 : F .f32)))
    shapeCasts_S560x256_S1x560x256

/-- The output gate times the causal-free three-tap convolution of a chunk of the mixer. -/
def mixY (xm : FVec F S544x1024 .bf16) (w : Vec F S1024x256 .bf16) (b : Vec F S1x256 .f32)
    (c1 : Vec F S1x256 .f32) (s1 : Vec F S544x256 .f32) (c0 : Vec F S1x256 .f32) (s0 : Vec F S544x256 .f32)
    (c2 : Vec F S1x256 .f32) (s2 : Vec F S544x256 .f32) (cb : Vec F S1x256 .f32) : FVec F S544x256 .bf16 :=
  shapeCast S544x256
    (truncf .bf16
      (mulf
        (addf (matmul dot_S544x1024_S1024x256_S544x256_1_0_0_1_n_n none xm w (constant S544x256 .f32 0x00000000#32))
          (broadcastTo S544x256 b broadcasts_S1x256_S544x256))
        (addf
          (addf
            (addf (mulf (broadcastTo S544x256 c1 broadcasts_S1x256_S544x256) s1)
              (mulf (broadcastTo S544x256 c0 broadcasts_S1x256_S544x256) s0))
            (mulf (broadcastTo S544x256 c2 broadcasts_S1x256_S544x256) s2))
          (broadcastTo S544x256 cb broadcasts_S1x256_S544x256)))
      bitsLt_bf16_f32)
    shapeCasts_S544x256_S544x256

/-- The gate half of a chunk of the feed forward, zero outside the sequence. -/
def ffnG (ok : IVec S544x1 1) (xb : FVec F S544x1024 .bf16) (w : Vec F S1024x256 .bf16) (b : Vec F S1x256 .f32) :
    FVec F S1x544x256 .f32 :=
  shapeCast S1x544x256
    (select (broadcastTo S544x256 (shapeCast S544x1 ok shapeCasts_S544x1_S544x1) broadcasts_S544x1_S544x256)
      (addf (matmul dot_S544x1024_S1024x256_S544x256_1_0_0_1_n_n none xb w (constant S544x256 .f32 0x00000000#32))
        (broadcastTo S544x256 b broadcasts_S1x256_S544x256))
      (broadcast S544x256 (Scalar.ofBits .f32 0x00000000#32 : F .f32)))
    shapeCasts_S544x256_S1x544x256

/-- The convolved gate of a chunk of the feed forward. -/
def ffnC (c1 : Vec F S1x256 .f32) (g1 : Vec F S528x256 .f32) (c0 : Vec F S1x256 .f32) (g0 : Vec F S528x256 .f32)
    (c2 : Vec F S1x256 .f32) (g2 : Vec F S528x256 .f32) (cb : Vec F S1x256 .f32) : FVec F S528x256 .f32 :=
  addf
    (addf
      (addf (mulf (broadcastTo S528x256 c1 broadcasts_S1x256_S528x256) g1)
        (mulf (broadcastTo S528x256 c0 broadcasts_S1x256_S528x256) g0))
      (mulf (broadcastTo S528x256 c2 broadcasts_S1x256_S528x256) g2))
    (broadcastTo S528x256 cb broadcasts_S1x256_S528x256)

/-- The activation of a chunk of the feed forward. -/
def ffnA (xm : FVec F S528x1024 .bf16) (w : Vec F S1024x256 .bf16) (b : Vec F S1x256 .f32)
    (gc : FVec F S528x256 .f32) : FVec F S528x256 .bf16 :=
  shapeCast S528x256
    (truncf .bf16
      (mulf (mulf gc (logistic gc))
        (addf (matmul dot_S528x1024_S1024x256_S528x256_1_0_0_1_n_n none xm w (constant S528x256 .f32 0x00000000#32))
          (broadcastTo S528x256 b broadcasts_S1x256_S528x256)))
      bitsLt_bf16_f32)
    shapeCasts_S528x256_S528x256

/-- The residual sum of 16 rows. -/
def lnZ (b : Vec F S1x1024 .f32) (r p : FVec F S16x1024 .f32) : FVec F S16x1024 .f32 :=
  addf (mulf (broadcast S16x1024 (Scalar.ofBits .f32 0x3FB504F3#32 : F .f32)) r)
    (addf p (broadcastTo S16x1024 b broadcasts_S1x1024_S16x1024))

/-- The mean of each of 16 rows. -/
def lnMean (z : FVec F S16x1024 .f32) : FVec F S16x1 .f32 :=
  divf (shapeCast S16x1 (multiReduction .add [1] S16 z 0x00000000#32 reduces_S16x1024_S16 (.inl rfl) rfl) shapeCasts_S16_S16x1)
    (broadcast S16x1 (Scalar.ofBits .f32 0x44800000#32 : F .f32))

/-- 16 rows less their means. -/
def lnC (z : FVec F S16x1024 .f32) : FVec F S16x1024 .f32 :=
  subf z (broadcastTo S16x1024 (lnMean z) broadcasts_S16x1_S16x1024)

/-- The layer norm of 16 rows. -/
def lnN (g b' : Vec F S1x1024 .f32) (z : FVec F S16x1024 .f32) : FVec F S16x1024 .f32 :=
  addf
    (mulf
      (mulf (lnC z)
        (broadcastTo S16x1024
          (rsqrt (addf (lnMean (mulf (lnC z) (lnC z))) (broadcast S16x1 (Scalar.ofBits .f32 0x3727C5AC#32 : F .f32))))
          broadcasts_S16x1_S16x1024))
      (broadcastTo S16x1024 g broadcasts_S1x1024_S16x1024))
    (broadcastTo S16x1024 b' broadcasts_S1x1024_S16x1024)

/-- Rows `o … o + 15` of a product. -/
def rows {n : ℕ} (p : FVec F ⟨2, ![n, 1024]⟩ .f32) (o : ℕ) (h : Shape.Slices ⟨2, ![n, 1024]⟩ ![o, 0] S16x1024) :
    FVec F S16x1024 .f32 := extractStridedSlice S16x1024 ![o, 0] p h

theorem slices16 {n o : ℕ} (h : o + 16 ≤ n) : Shape.Slices ⟨2, ![n, 1024]⟩ ![o, 0] S16x1024 :=
  ⟨rfl, inb2 h (le_refl 1024)⟩

/-! ### The pieces -/

/-- The carried rows moved aside, and the next tile with its neighbours' rows put together. -/
def assemble (i : grid0.Coords) (B : Bufs) : P F PUnit := do
  let v8 ← ld B.a23 ![0, 0] ![544, 1024] (inb2 (le_refl _) (le_refl _)) h_S544x1024
  let _ ← ld B.a24 ![0, 0] ![544, 1024] (inb2 (le_refl _) (le_refl _)) h_S544x1024
  stF B.a24 ![0, 0] ![544, 1024] (inb2 (le_refl _) (le_refl _)) h_S544x1024 (k0_pay45 v8)
  let v12 ← ld B.a1 ![0, 32, 0] ![1, 32, 1024] (inb3 (by decide) (by decide) (by decide)) h_S1x32x1024
  let _ ← ld B.a22 ![0, 0] ![32, 1024] (inb2 (by decide) (by decide)) h_S32x1024
  stF B.a22 ![0, 0] ![32, 1024] (inb2 (by decide) (by decide)) h_S32x1024 (k0_pay46 v12)
  let v18 ← ld B.a4 ![0, 0, 0] ![1, 16, 1024] (inb3 (by decide) (by decide) (by decide)) h_S1x16x1024
  let v20 ← ld B.a1 ![0, 48, 0] ![1, 16, 1024] (inb3 (by decide) (by decide) (by decide)) h_S1x16x1024
  let _ ← ld B.a22 ![16, 0] ![16, 1024] (inb2 (by decide) (by decide)) h_S16x1024
  stF B.a22 ![16, 0] ![16, 1024] (inb2 (by decide) (by decide)) h_S16x1024 (k0_pay47 i v18 v20)
  let v26 ← ld B.a2 ![0, 0, 0] ![1, 512, 1024] (inb3 (by decide) (by decide) (by decide)) h_S1x512x1024
  let _ ← ld B.a22 ![32, 0] ![512, 1024] (inb2 (by decide) (by decide)) h_S512x1024
  stF B.a22 ![32, 0] ![512, 1024] (inb2 (by decide) (by decide)) h_S512x1024 (k0_pay48 v26)
  let v31 ← ld B.a3 ![0, 0, 0] ![1, 16, 1024] (inb3 (by decide) (by decide) (by decide)) h_S1x16x1024
  let _ ← ld B.a22 ![544, 0] ![16, 1024] (inb2 (by decide) (by decide)) h_S16x1024
  stF B.a22 ![544, 0] ![16, 1024] (inb2 (by decide) (by decide)) h_S16x1024 (k0_pay49 v31)

/-- The taps of the mixer's convolution. -/
abbrev taps6 (B : Bufs) : Memref sig .tc .vmem S3x1024 .f32 :=
  (B.a6.slice (Rect.unit (s := S1x3x1024) ![0, 0, 0] ![1, 3, 1024] inb_S1x3x1024_S1x3x1024_0_0_0) (fun _ => rfl)).squeeze S3x1024 squeezes_S1x3x1024_S3x1024

/-- The input bias of the mixer. -/
abbrev bias5 (B : Bufs) : Memref sig .tc .vmem S1x3072 .f32 :=
  B.a5.slice (Rect.unit (s := S1x3072) ![0, 0] ![1, 3072] inb_S1x3072_S1x3072_0_0) (fun _ => rfl)

/-- The convolution's bias. -/
abbrev bias7 (B : Bufs) : Memref sig .tc .vmem S1x1024 .f32 :=
  B.a7.slice (Rect.unit (s := S1x1024) ![0, 0] ![1, 1024] inb_S1x1024_S1x1024_0_0) (fun _ => rfl)

/-- Slot `k` of the mixer's gated product. -/
abbrev slot28 (B : Bufs) (k : ℕ) (hk : k < 2) : Memref sig .tc .vmem S560x256 .f32 :=
  (B.a28.slice (Rect.unit (s := S2x560x256) ![k, 0, 0] ![1, 560, 256] (inb3 hk (le_refl _) (le_refl _))) (fun _ => rfl)).squeeze S560x256 squeezes_S1x560x256_S560x256

/-- Chunk `j` of the mixer: its columns `256 j … 256 j + 255`, through slot `k`. -/
def mixChunk (B : Bufs) (ok : IVec S560x1 1) (xb : FVec F S560x1024 .bf16) (xm : FVec F S544x1024 .bf16)
    (j k : ℕ) (hj : j < 4) (hk : k < 2) : P F PUnit := do
  let w ← ld B.a30 ![0, 1024 + 256 * j] ![1024, 256] (inb2 (by omega) (by omega)) h_S1024x256
  let b ← ld (bias5 B) ![0, 1024 + 256 * j] ![1, 256] (inb2 (by omega) (by omega)) h_S1x256
  let w' ← ld B.a30 ![0, 2048 + 256 * j] ![1024, 256] (inb2 (by omega) (by omega)) h_S1024x256
  let b' ← ld (bias5 B) ![0, 2048 + 256 * j] ![1, 256] (inb2 (by omega) (by omega)) h_S1x256
  let _ ← ld B.a28 ![k, 0, 0] ![1, 560, 256] (inb3 hk (le_refl _) (le_refl _)) h_S1x560x256
  stF B.a28 ![k, 0, 0] ![1, 560, 256] (inb3 hk (le_refl _) (le_refl _)) h_S1x560x256 (mixS ok xb w b w' b')
  let wg ← ld B.a30 ![0, 256 * j] ![1024, 256] (inb2 (by omega) (by omega)) h_S1024x256
  let bg ← ld (bias5 B) ![0, 256 * j] ![1, 256] (inb2 (by omega) (by omega)) h_S1x256
  let c1 ← ld (taps6 B) ![1, 256 * j] ![1, 256] (inb2 (by omega) (by omega)) h_S1x256
  let s1 ← ld (slot28 B k hk) ![8, 0] ![544, 256] (inb2 (by omega) (by omega)) h_S544x256
  let c0 ← ld (taps6 B) ![0, 256 * j] ![1, 256] (inb2 (by omega) (by omega)) h_S1x256
  let s0 ← ld (slot28 B k hk) ![7, 0] ![544, 256] (inb2 (by omega) (by omega)) h_S544x256
  let c2 ← ld (taps6 B) ![2, 256 * j] ![1, 256] (inb2 (by omega) (by omega)) h_S1x256
  let s2 ← ld (slot28 B k hk) ![9, 0] ![544, 256] (inb2 (by omega) (by omega)) h_S544x256
  let cb ← ld (bias7 B) ![0, 256 * j] ![1, 256] (inb2 (by omega) (by omega)) h_S1x256
  let _ ← ld B.a29 ![0, 256 * j] ![544, 256] (inb2 (by omega) (by omega)) h_S544x256
  stH B.a29 B.h29 ![0, 256 * j] ![544, 256] (inb2 (by omega) (by omega)) h_S544x256 (packed2 _ ⟨0, rfl⟩ ⟨272, rfl⟩)
    (mixY xm wg bg c1 s1 c0 s0 c2 s2 cb)

/-- The taps of the feed forward's convolution. -/
abbrev taps12 (B : Bufs) : Memref sig .tc .vmem S3x2816 .f32 :=
  (B.a12.slice (Rect.unit (s := S2x3x2816) ![1, 0, 0] ![1, 3, 2816] inb_S2x3x2816_S1x3x2816_1_0_0) (fun _ => rfl)).squeeze S3x2816 squeezes_S1x3x2816_S3x2816

/-- The bias of the feed forward's first product. -/
abbrev bias11 (B : Bufs) : Memref sig .tc .vmem S1x5632 .f32 :=
  B.a11.slice (Rect.unit (s := S2x5632) ![1, 0] ![1, 5632] (inb2 (by decide) (by decide))) (fun _ => rfl)

/-- The bias of the feed forward's convolution. -/
abbrev bias13 (B : Bufs) : Memref sig .tc .vmem S1x2816 .f32 :=
  B.a13.slice (Rect.unit (s := S2x2816) ![1, 0] ![1, 2816] (inb2 (by decide) (by decide))) (fun _ => rfl)

/-- Slot `k` of the feed forward's gate. -/
abbrev slot25 (B : Bufs) (k : ℕ) (hk : k < 2) : Memref sig .tc .vmem S544x256 .f32 :=
  (B.a25.slice (Rect.unit (s := S2x544x256) ![k, 0, 0] ![1, 544, 256] (inb3 hk (le_refl _) (le_refl _))) (fun _ => rfl)).squeeze S544x256 squeezes_S1x544x256_S544x256

/-- Chunk `j` of the feed forward: its columns `256 j … 256 j + 255`, through slot `k`. -/
def ffnChunk (B : Bufs) (ok : IVec S544x1 1) (xb : FVec F S544x1024 .bf16) (xm : FVec F S528x1024 .bf16)
    (j k : ℕ) (hj : j < 11) (hk : k < 2) : P F PUnit := do
  let w ← ld B.a32 ![0, 256 * j] ![1024, 256] (inb2 (by omega) (by omega)) h_S1024x256
  let b ← ld (bias11 B) ![0, 256 * j] ![1, 256] (inb2 (by omega) (by omega)) h_S1x256
  let _ ← ld B.a25 ![k, 0, 0] ![1, 544, 256] (inb3 hk (le_refl _) (le_refl _)) h_S1x544x256
  stF B.a25 ![k, 0, 0] ![1, 544, 256] (inb3 hk (le_refl _) (le_refl _)) h_S1x544x256 (ffnG ok xb w b)
  let w' ← ld B.a32 ![0, 2816 + 256 * j] ![1024, 256] (inb2 (by omega) (by omega)) h_S1024x256
  let b' ← ld (bias11 B) ![0, 2816 + 256 * j] ![1, 256] (inb2 (by omega) (by omega)) h_S1x256
  let c1 ← ld (taps12 B) ![1, 256 * j] ![1, 256] (inb2 (by omega) (by omega)) h_S1x256
  let g1 ← ld (slot25 B k hk) ![8, 0] ![528, 256] (inb2 (by omega) (by omega)) h_S528x256
  let c0 ← ld (taps12 B) ![0, 256 * j] ![1, 256] (inb2 (by omega) (by omega)) h_S1x256
  let g0 ← ld (slot25 B k hk) ![7, 0] ![528, 256] (inb2 (by omega) (by omega)) h_S528x256
  let c2 ← ld (taps12 B) ![2, 256 * j] ![1, 256] (inb2 (by omega) (by omega)) h_S1x256
  let g2 ← ld (slot25 B k hk) ![9, 0] ![528, 256] (inb2 (by omega) (by omega)) h_S528x256
  let cb ← ld (bias13 B) ![0, 256 * j] ![1, 256] (inb2 (by omega) (by omega)) h_S1x256
  let _ ← ld B.a26 ![0, 256 * j] ![528, 256] (inb2 (by omega) (by omega)) h_S528x256
  stH B.a26 B.h26 ![0, 256 * j] ![528, 256] (inb2 (by omega) (by omega)) h_S528x256 (packed2 _ ⟨0, rfl⟩ ⟨264, rfl⟩)
    (ffnA xm w' b' (ffnC c1 g1 c0 g0 c2 g2 cb))

/-- The layer norm of rows `16 k … 16 k + 15` of the mixer's result, from rows `o … o + 15` of a product. -/
def mixRow (B : Bufs) (b g b' : Vec F S1x1024 .f32) (p : FVec F S272x1024 .f32) (k o : ℕ) (hk : k < 34)
    (ho : o + 16 ≤ 272) : P F PUnit := do
  let r ← ld B.a22 ![8 + 16 * k, 0] ![16, 1024] (inb2 (by omega) (by omega)) h_S16x1024
  let _ ← ld B.a23 ![16 * k, 0] ![16, 1024] (inb2 (by omega) (by omega)) h_S16x1024
  stF B.a23 ![16 * k, 0] ![16, 1024] (inb2 (by omega) (by omega)) h_S16x1024
    (shapeCast S16x1024 (lnN g b' (lnZ b r (rows p o (slices16 ho)))) shapeCasts_S16x1024_S16x1024)

/-- The layer norm of rows `16 k … 16 k + 15` of the tile's result, from rows `o … o + 15` of a product. -/
def ffnRow (B : Bufs) (b g b' : Vec F S1x1024 .f32) {n : ℕ} (p : FVec F ⟨2, ![n, 1024]⟩ .f32) (k o : ℕ) (hk : k < 32)
    (ho : o + 16 ≤ n) : P F PUnit := do
  let r ← ld B.a24 ![24 + 16 * k, 0] ![16, 1024] (inb2 (by omega) (by omega)) h_S16x1024
  let _ ← ld B.a21 ![0, 16 * k, 0] ![1, 16, 1024] (inb3 (by omega) (by omega) (by omega)) h_S1x16x1024
  stF B.a21 ![0, 16 * k, 0] ![1, 16, 1024] (inb3 (by omega) (by omega) (by omega)) h_S1x16x1024
    (shapeCast S1x16x1024 (lnN g b' (lnZ b r (rows p o (slices16 ho)))) shapeCasts_S16x1024_S1x16x1024)

/-- The first 16 rows, which are no part of the result. -/
def ffnRow0 (B : Bufs) (b g b' : Vec F S1x1024 .f32) (p : FVec F S256x1024 .f32) : P F PUnit := do
  let r ← ld B.a24 ![8, 0] ![16, 1024] (inb2 (by omega) (by omega)) h_S16x1024
  let _ ← ld B.a27 ![0, 0] ![16, 1024] (inb2 (by omega) (by omega)) h_S16x1024
  stF B.a27 ![0, 0] ![16, 1024] (inb2 (by omega) (by omega)) h_S16x1024
    (shapeCast S16x1024 (lnN g b' (lnZ b r (rows p 0 (slices16 (by omega))))) shapeCasts_S16x1024_S16x1024)

/-- The feed forward's second product and layer norm, in two halves. -/
def ffnBack (B : Bufs) : P F PUnit := do
  let b ← ld B.a14 ![1, 0] ![1, 1024] (inb2 (by decide) (by decide)) h_S1x1024
  let g ← ld B.a15 ![1, 0] ![1, 1024] (inb2 (by decide) (by decide)) h_S1x1024
  let b' ← ld B.a16 ![1, 0] ![1, 1024] (inb2 (by decide) (by decide)) h_S1x1024
  let u ← ld B.a26 ![0, 0] ![256, 2816] (inb2 (by decide) (by decide)) h_S256x2816
  let w ← ld B.a33 ![0, 0] ![2816, 1024] (inb2 (by decide) (by decide)) h_S2816x1024
  ffnRow0 B b g b' (matmul dot_S256x2816_S2816x1024_S256x1024_1_0_0_1_n_n none u w (constant S256x1024 .f32 0x00000000#32))
  loop (fun k => if h : k < 15 then
    ffnRow B b g b' (matmul dot_S256x2816_S2816x1024_S256x1024_1_0_0_1_n_n none u w (constant S256x1024 .f32 0x00000000#32))
      k (16 + 16 * k) (by omega) (by omega) else .ret ⟨⟩) 15
  let u' ← ld B.a26 ![256, 0] ![272, 2816] (inb2 (by decide) (by decide)) h_S272x2816
  let w' ← ld B.a33 ![0, 0] ![2816, 1024] (inb2 (by decide) (by decide)) h_S2816x1024
  loop (fun k => if h : k < 17 then
    ffnRow B b g b' (matmul dot_S272x2816_S2816x1024_S272x1024_1_0_0_1_n_n none u' w' (constant S272x1024 .f32 0x00000000#32))
      (15 + k) (16 * k) (by omega) (by omega) else .ret ⟨⟩) 17

/-- The mixer's second product and layer norm, in two halves. -/
def mixBack (B : Bufs) : P F PUnit := do
  let b ← ld B.a8 ![0, 0] ![1, 1024] (inb2 (by decide) (by decide)) h_S1x1024
  let g ← ld B.a9 ![1, 0] ![1, 1024] (inb2 (by decide) (by decide)) h_S1x1024
  let b' ← ld B.a10 ![1, 0] ![1, 1024] (inb2 (by decide) (by decide)) h_S1x1024
  let u ← ld B.a29 ![0, 0] ![272, 1024] (inb2 (by decide) (by decide)) h_S272x1024
  let w ← ld B.a31 ![0, 0] ![1024, 1024] (inb2 (by decide) (by decide)) h_S1024x1024
  loop (fun k => if h : k < 17 then
    mixRow B b g b' (matmul dot_S272x1024_S1024x1024_S272x1024_1_0_0_1_n_n none u w (constant S272x1024 .f32 0x00000000#32))
      k (16 * k) (by omega) (by omega) else .ret ⟨⟩) 17
  let u' ← ld B.a29 ![272, 0] ![272, 1024] (inb2 (by decide) (by decide)) h_S272x1024
  let w' ← ld B.a31 ![0, 0] ![1024, 1024] (inb2 (by decide) (by decide)) h_S1024x1024
  loop (fun k => if h : k < 17 then
    mixRow B b g b' (matmul dot_S272x1024_S1024x1024_S272x1024_1_0_0_1_n_n none u' w' (constant S272x1024 .f32 0x00000000#32))
      (17 + k) (16 * k) (by omega) (by omega) else .ret ⟨⟩) 17

/-- The tile the mixer works on at grid point `i`, within its sequence, as the kernel computes it. -/
def tileM (i : grid0.Coords) : BitVec 32 := Scalar.remsi (Scalar.minsi (BitVec.ofNat 32 (i 0).val) 31#32) 4#32

/-- The tile the feed forward works on at grid point `i`, within its sequence, as the kernel computes it. -/
def tileF (i : grid0.Coords) : BitVec 32 :=
  Scalar.remsi (Scalar.maxsi (Scalar.subi (BitVec.ofNat 32 (i 0).val) 1#32) 0#32) 4#32

/-- The mixer's four chunks. -/
def mixChunks (i : grid0.Coords) (B : Bufs) : P F PUnit := do
  let x ← ld B.a22 ![0, 0] ![560, 1024] (inb2 (by decide) (by decide)) h_S560x1024
  let x' ← ld B.a22 ![8, 0] ![544, 1024] (inb2 (by decide) (by decide)) h_S544x1024
  loop (fun j => if h : j < 4 then
    mixChunk B (okX (tileM i)) (truncf .bf16 x bitsLt_bf16_f32) (truncf .bf16 x' bitsLt_bf16_f32) j (j % 2) h (Nat.mod_lt _ (by decide))
    else .ret ⟨⟩) 4

/-- The feed forward's eleven chunks. -/
def ffnChunks (i : grid0.Coords) (B : Bufs) : P F PUnit := do
  let x ← ld B.a24 ![0, 0] ![544, 1024] (inb2 (by decide) (by decide)) h_S544x1024
  let x' ← ld B.a24 ![8, 0] ![528, 1024] (inb2 (by decide) (by decide)) h_S528x1024
  loop (fun j => if h : j < 11 then
    ffnChunk B (k0_pay76 (Scalar.subi (Scalar.muli (tileF i) 512#32) 16#32)) (truncf .bf16 x bitsLt_bf16_f32) (truncf .bf16 x' bitsLt_bf16_f32) j (j % 2) h (Nat.mod_lt _ (by decide))
    else .ret ⟨⟩) 11

/-- The body after the weights are in place. -/
def main (i : grid0.Coords) (B : Bufs) : P F PUnit := do
  assemble i B
  mixChunks i B
  ffnChunks i B
  ffnBack B
  mixBack B

end Cert.Proof
-- ==== Proof.Rules.lean ====
/-
  How the kernel's loads, stores and loops act on buffers whose contents are known: a load from a buffer that reads `X`
  gives a window of `X`, a store puts its value there, and a loop keeps what each of its steps keeps.
-/
module

public import proofs.«01_k».proof.Proof.Recut
public import proofs.«01_k».proof.Proof.Gen.KernelIdeal.Frame
public import Idealize.ShloMosaic.Lib.VecWindow
public import Idealize.ShloMosaic.Lib.Pipeline.Value

@[expose] public section

set_option maxRecDepth 16384
set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

variable {F : FTy → Type} [FloatOps F]

local notation "𝕄" => MT nD τ sig Unit (Elt F) ℕ (Pipeline.UD sig nD τ) ℕ

/-- What must hold before `p` for it to run and `Q` to hold after. -/
abbrev WP (c : Dev nD) (p : P F PUnit) (Q : PUnit → sProp 𝕄) : sProp 𝕄 :=
  wp frame (wpE (defs₀ (F := F)) Variants.none (c : Thread nD τ) none) Set.univ p Q

/-- The core owns the whole buffer, which reads `X`. -/
abbrev has (c : Dev nD) {sp : Space} {s : Shape} {e : EltTy} (m : Memref sig .tc sp s e) (X : s.Idx → Elt F e) : sProp 𝕄 :=
  owns (c : Thread nD τ) m fullShare X

variable (c : Dev nD)

theorem wp_ld {s : Shape} {e : EltTy} {m : Memref sig .tc .vmem s e} {off size : Fin s.rank → ℕ}
    {inb : ∀ a, off a + size a ≤ s.size a} {hn : 0 < (⟨s.rank, size⟩ : Shape).numel} {X : s.Idx → Elt F e}
    {k : ((⟨s.rank, size⟩ : Shape).Idx → Elt F e) → P F PUnit} {Q : PUnit → sProp 𝕄} :
    (has c m X : sProp 𝕄) ⊢ iprop((has c m X -∗ WP c (k (window X off size inb)) Q) -∗ WP c (ld m off size inb hn >>= k) Q) := by
  unfold has owns
  iintro ⟨%f, %hf, H⟩ Hk
  subst hf
  iapply (wp_load Variants.none (c : Thread nD τ) none Set.univ (m := m) (S := m.view.set) (View.setOn_subset_set _ _)) $$ H
  iintro H
  iapply Hk
  iexists f
  isplitr
  · ipureintro; rfl
  · iexact H

/-- A load through a slice of the buffer: a window of a window. -/
theorem wp_ld_slice {s : Shape} {e : EltTy} {m : Memref sig .tc .vmem s e} {o z : Fin s.rank → ℕ}
    {i : ∀ a, o a + z a ≤ s.size a} {hs : ∀ a, (Rect.unit (s := s) o z i).stride a = 1} {off size : Fin s.rank → ℕ}
    {inb : ∀ a, off a + size a ≤ z a} {hn : 0 < (⟨s.rank, size⟩ : Shape).numel} {X : s.Idx → Elt F e}
    {k : ((⟨s.rank, size⟩ : Shape).Idx → Elt F e) → P F PUnit} {Q : PUnit → sProp 𝕄} :
    (has c m X : sProp 𝕄) ⊢ iprop((has c m X -∗
        WP c (k (window (s := (Rect.unit (s := s) o z i).shape) (window X o z i) off size inb)) Q)
      -∗ WP c (ld (m.slice (Rect.unit (s := s) o z i) hs) off size inb hn >>= k) Q) := by
  unfold has owns
  iintro ⟨%f, %hf, H⟩ Hk
  subst hf
  iapply (wp_load Variants.none (c : Thread nD τ) none Set.univ (m := m.slice (Rect.unit (s := s) o z i) hs) (S := m.view.set)
    ((View.setOn_subset_set _ _).trans (View.set_slice_subset _ _))) $$ H
  iintro H
  iapply Hk
  iexists f
  isplitr
  · ipureintro; rfl
  · iexact H

/-- A load through a slice of the buffer with an axis of one dropped. -/
theorem wp_ld_sq {s s' : Shape} {e : EltTy} {m : Memref sig .tc .vmem s e} {o z : Fin s.rank → ℕ}
    {i : ∀ a, o a + z a ≤ s.size a} {hs : ∀ a, (Rect.unit (s := s) o z i).stride a = 1}
    {hq : (Rect.unit (s := s) o z i).shape.Squeezes s'} {off size : Fin s'.rank → ℕ}
    {inb : ∀ a, off a + size a ≤ s'.size a} {hn : 0 < (⟨s'.rank, size⟩ : Shape).numel} {X : s.Idx → Elt F e}
    {k : ((⟨s'.rank, size⟩ : Shape).Idx → Elt F e) → P F PUnit} {Q : PUnit → sProp 𝕄} :
    (has c m X : sProp 𝕄) ⊢ iprop((has c m X -∗
        WP c (k (window (shapeCast s' (window X o z i) hq.numel_eq) off size inb)) Q)
      -∗ WP c (ld ((m.slice (Rect.unit (s := s) o z i) hs).squeeze s' hq) off size inb hn >>= k) Q) := by
  unfold has owns
  iintro ⟨%f, %hf, H⟩ Hk
  subst hf
  iapply (wp_load Variants.none (c : Thread nD τ) none Set.univ
    (m := (m.slice (Rect.unit (s := s) o z i) hs).squeeze s' hq) (S := m.view.set)
    ((View.setOn_subset_set _ _).trans ((View.set_reshape _ _).subset.trans (View.set_slice_subset _ _)))) $$ H
  iintro H
  iapply Hk
  iexists f
  isplitr
  · ipureintro; rfl
  · iexact H

theorem read_put {s : Shape} {e : EltTy} (m : Memref sig .tc .vmem s e) {off size : Fin s.rank → ℕ}
    (inb : ∀ a, off a + size a ≤ s.size a) (f : m.view.ty.Contents (Elt F))
    (w : (⟨s.rank, size⟩ : Shape).Idx → Elt F e) :
    m.view.read (Elt F) ((m.access (Rect.unit (s := s) off size inb)).write (Elt F) f w Finset.univ)
      = put (m.view.read (Elt F) f) off size w := by
  have h := View.read_writes_cons_put (Val := Elt F) m.view f inb w [] rfl
  rw [View.writes_nil] at h
  exact h

theorem wp_stF {s : Shape} {m : Memref sig .tc .vmem s .f32} {off size : Fin s.rank → ℕ}
    {inb : ∀ a, off a + size a ≤ s.size a} {hn : 0 < (⟨s.rank, size⟩ : Shape).numel} {X : s.Idx → Elt F .f32}
    {w : (⟨s.rank, size⟩ : Shape).Idx → Elt F .f32} {k : PUnit → P F PUnit} {Q : PUnit → sProp 𝕄} :
    (has c m X : sProp 𝕄) ⊢ iprop((has c m (put X off size w) -∗ WP c (k ⟨⟩) Q) -∗ WP c (stF m off size inb hn w >>= k) Q) := by
  unfold has owns
  iintro ⟨%f, %hf, H⟩ Hk
  subst hf
  iapply (wp_store Variants.none (c : Thread nD τ) none Set.univ (m := m) (r := Rect.unit (s := s) off size inb) (S := m.view.set)
    ((View.setOn_subset_set _ _).trans (View.set_slice_subset _ _))) $$ H
  iintro H
  iapply Hk
  iexists _
  isplitr
  · ipureintro; exact read_put m inb f w
  · iexact H

theorem wp_stH {s : Shape} {m : Memref sig .tc .vmem s .bf16} {hm : m.IsWhole} {off size : Fin s.rank → ℕ}
    {inb : ∀ a, off a + size a ≤ s.size a} {hn : 0 < (⟨s.rank, size⟩ : Shape).numel}
    {hp : (Rect.unit (s := s) off size inb).PackedRows (EltTy.packing .bf16)} {X : s.Idx → Elt F .bf16}
    {w : (⟨s.rank, size⟩ : Shape).Idx → Elt F .bf16} {k : PUnit → P F PUnit} {Q : PUnit → sProp 𝕄} :
    (has c m X : sProp 𝕄) ⊢ iprop((has c m (put X off size w) -∗ WP c (k ⟨⟩) Q) -∗ WP c (stH m hm off size inb hn hp w >>= k) Q) := by
  unfold has owns
  iintro ⟨%f, %hf, H⟩ Hk
  subst hf
  iapply (wp_store Variants.none (c : Thread nD τ) none Set.univ (m := m) (r := Rect.unit (s := s) off size inb) (S := m.view.set)
    ((View.setOn_subset_set _ _).trans (View.set_slice_subset _ _))) $$ H
  iintro H
  iapply Hk
  iexists _
  isplitr
  · ipureintro; exact read_put m inb f w
  · iexact H

/-- A store that ends a piece. -/
theorem wp_stF_last {s : Shape} {m : Memref sig .tc .vmem s .f32} {off size : Fin s.rank → ℕ}
    {inb : ∀ a, off a + size a ≤ s.size a} {hn : 0 < (⟨s.rank, size⟩ : Shape).numel} {X : s.Idx → Elt F .f32}
    {w : (⟨s.rank, size⟩ : Shape).Idx → Elt F .f32} {Q : PUnit → sProp 𝕄} :
    (has c m X : sProp 𝕄) ⊢ iprop((has c m (put X off size w) -∗ Q ⟨⟩) -∗ WP c (stF m off size inb hn w) Q) := by
  iintro H Hk
  iapply (wp_stF c (inb := inb) (hn := hn) (w := w) (k := fun _ => .ret ⟨⟩) (Q := Q)) $$ H
  iintro H
  iapply (le_wp_ret frame _ Set.univ PUnit.unit Q)
  iapply Hk $$ H

theorem wp_stH_last {s : Shape} {m : Memref sig .tc .vmem s .bf16} {hm : m.IsWhole} {off size : Fin s.rank → ℕ}
    {inb : ∀ a, off a + size a ≤ s.size a} {hn : 0 < (⟨s.rank, size⟩ : Shape).numel}
    {hp : (Rect.unit (s := s) off size inb).PackedRows (EltTy.packing .bf16)} {X : s.Idx → Elt F .bf16}
    {w : (⟨s.rank, size⟩ : Shape).Idx → Elt F .bf16} {Q : PUnit → sProp 𝕄} :
    (has c m X : sProp 𝕄) ⊢ iprop((has c m (put X off size w) -∗ Q ⟨⟩) -∗ WP c (stH m hm off size inb hn hp w) Q) := by
  iintro H Hk
  iapply (wp_stH c (hm := hm) (inb := inb) (hn := hn) (hp := hp) (w := w) (k := fun _ => .ret ⟨⟩) (Q := Q)) $$ H
  iintro H
  iapply (le_wp_ret frame _ Set.univ PUnit.unit Q)
  iapply Hk $$ H

/-- A piece followed by the rest. -/
theorem wp_then {p : P F PUnit} {k : PUnit → P F PUnit} {A B : sProp 𝕄} {Q : PUnit → sProp 𝕄}
    (h : A ⊢ WP c p (fun _ => B)) : A ⊢ iprop((B -∗ WP c (k ⟨⟩) Q) -∗ WP c (p >>= k) Q) := by
  refine BI.wand_intro ?_
  show iprop(A ∗ (B -∗ WP c (k ⟨⟩) Q)) ⊢ wp frame (wpE (defs₀ (F := F)) Variants.none (c : Thread nD τ) none) Set.univ (p >>= k) Q
  rw [wp_bind]
  refine BIBase.Entails.trans ?_ (wp_wand_r frame (wpE (defs₀ (F := F)) Variants.none (c : Thread nD τ) none) Set.univ (Q := fun _ => B))
  iintro ⟨HA, Hk⟩
  isplitl [HA]
  · iapply h $$ HA
  · iintro %_ HB
    iapply Hk $$ HB

/-- A loop whose steps each carry `I` on carries it from the first to the last. -/
theorem wp_steps {f : ℕ → P F PUnit} {I : ℕ → sProp 𝕄} (n : ℕ) : ∀ (a : ℕ),
    (∀ j, a ≤ j → j < a + n → I j ⊢ WP c (f j) (fun _ => I (j + 1))) → I a ⊢ WP c (steps f a n) (fun _ => I (a + n)) := by
  induction n with
  | zero => intro a _; exact le_wp_ret frame _ Set.univ PUnit.unit (fun _ => I a)
  | succ n ih =>
    intro a h
    have h0 := wp_then c (k := fun _ => steps f (a + 1) n) (Q := fun _ => I (a + 1 + n)) (h a (le_refl _) (by omega))
    have h1 := ih (a + 1) (fun j hj hj' => h j (by omega) (by omega))
    rw [show a + (n + 1) = a + 1 + n by omega]
    show _ ⊢ WP c (f a >>= fun _ => steps f (a + 1) n) _
    iintro HI
    iapply h0 $$ HI
    iintro HI
    iapply h1 $$ HI

end Cert.Proof
-- ==== Proof.Body.lean ====
/-
  What one grid point computes, as values, and that its program computes them: given the staged blocks, the rows carried
  over from the point before and the four weights, the program leaves the tile's result and the rows to carry on.
-/
module

public import proofs.«01_k».proof.Proof.Rules

@[expose] public section

set_option maxRecDepth 16384
set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

variable {F : FTy → Type} [FloatOps F]

local notation "𝕄" => MT nD τ sig Unit (Elt F) ℕ (Pipeline.UD sig nD τ) ℕ

/-! ### Windows and puts -/

theorem window_all {α : Type} {s : Shape} (x : s.Idx → α) {off : Fin s.rank → ℕ} (inb : ∀ a, off a + s.size a ≤ s.size a) :
    window x off s.size inb = x :=
  funext fun y => congrArg x (Rect.emb_unit_full inb y)

theorem put_all {α : Type} {s : Shape} (x : s.Idx → α) {off : Fin s.rank → ℕ} (inb : ∀ a, off a + s.size a ≤ s.size a)
    (w : s.Idx → α) : put x off s.size w = w := by
  have h := window_put_same x off s.size inb w
  rwa [window_all] at h

/-! ### The values of a grid point -/

/-- The tile with its neighbours' rows: the last 16 rows of the tile before (at the first tile the meta rows) twice
    over, the tile, and the first 16 rows of the tile after, over any old contents `d`. -/
def xeOver (i : grid0.Coords) (x1 : Vec F S1x64x1024 .f32) (x2 : Vec F S1x512x1024 .f32) (x3 : Vec F S1x32x1024 .f32)
    (x4 : Vec F S1x16x1024 .f32) (d : Vec F S560x1024 .f32) : Vec F S560x1024 .f32 :=
  put (put (put (put d ![0, 0] ![32, 1024] (k0_pay46 (window x1 ![0, 32, 0] ![1, 32, 1024] (inb3 (by decide) (by decide) (by decide)))))
      ![16, 0] ![16, 1024] (k0_pay47 i (window x4 ![0, 0, 0] ![1, 16, 1024] (inb3 (by decide) (by decide) (by decide)))
        (window x1 ![0, 48, 0] ![1, 16, 1024] (inb3 (by decide) (by decide) (by decide)))))
    ![32, 0] ![512, 1024] (k0_pay48 (window x2 ![0, 0, 0] ![1, 512, 1024] (inb3 (by decide) (by decide) (by decide)))))
  ![544, 0] ![16, 1024] (k0_pay49 (window x3 ![0, 0, 0] ![1, 16, 1024] (inb3 (by decide) (by decide) (by decide))))

/-- The old contents do not matter. -/
theorem xeOver_eq (i : grid0.Coords) (x1 : Vec F S1x64x1024 .f32) (x2 : Vec F S1x512x1024 .f32) (x3 : Vec F S1x32x1024 .f32)
    (x4 : Vec F S1x16x1024 .f32) (d d' : Vec F S560x1024 .f32) : xeOver i x1 x2 x3 x4 d = xeOver i x1 x2 x3 x4 d' := by
  funext y
  have h0 : (y 0).val < 560 := (y 0).isLt
  have h1 : (y 1).val < 1024 := (y 1).isLt
  unfold xeOver put
  by_cases a : ∀ a, (![544, 0] : Fin 2 → ℕ) a ≤ (y a).val ∧ (y a).val < (![544, 0] : Fin 2 → ℕ) a + (![16, 1024] : Fin 2 → ℕ) a
  · rw [dif_pos a, dif_pos a]
  rw [dif_neg a, dif_neg a]
  by_cases b : ∀ a, (![32, 0] : Fin 2 → ℕ) a ≤ (y a).val ∧ (y a).val < (![32, 0] : Fin 2 → ℕ) a + (![512, 1024] : Fin 2 → ℕ) a
  · rw [dif_pos b, dif_pos b]
  rw [dif_neg b, dif_neg b]
  by_cases e : ∀ a, (![16, 0] : Fin 2 → ℕ) a ≤ (y a).val ∧ (y a).val < (![16, 0] : Fin 2 → ℕ) a + (![16, 1024] : Fin 2 → ℕ) a
  · rw [dif_pos e, dif_pos e]
  rw [dif_neg e, dif_neg e]
  have f : ∀ a, (![0, 0] : Fin 2 → ℕ) a ≤ (y a).val ∧ (y a).val < (![0, 0] : Fin 2 → ℕ) a + (![32, 1024] : Fin 2 → ℕ) a := by
    simp only [Fin.forall_fin_two, Matrix.cons_val_zero, Matrix.cons_val_one] at a b e ⊢
    omega
  rw [dif_pos f, dif_pos f]

/-- The tile with its neighbours' rows. -/
def xe (i : grid0.Coords) (x1 : Vec F S1x64x1024 .f32) (x2 : Vec F S1x512x1024 .f32) (x3 : Vec F S1x32x1024 .f32)
    (x4 : Vec F S1x16x1024 .f32) : Vec F S560x1024 .f32 :=
  xeOver i x1 x2 x3 x4 (constant S560x1024 .f32 0x00000000#32)

variable (c : Dev nD) (B : Bufs)

/-- The buffer at some contents. -/
abbrev any (c : Dev nD) {sp : Space} {s : Shape} {e : EltTy} (m : Memref sig .tc sp s e) : sProp 𝕄 :=
  iprop(∃ d, has (F := F) c m d)

theorem has_eq {sp : Space} {s : Shape} {e : EltTy} {m : Memref sig .tc sp s e} {X Y : s.Idx → Elt F e} (h : X = Y) :
    (has c m X : sProp 𝕄) ⊢ has c m Y := by subst h; exact .rfl

theorem assemble_spec (i : grid0.Coords) (x1 : Vec F S1x64x1024 .f32) (x2 : Vec F S1x512x1024 .f32)
    (x3 : Vec F S1x32x1024 .f32) (x4 : Vec F S1x16x1024 .f32) (H : Vec F S544x1024 .f32) :
    iprop(has c B.a1 x1 ∗ has c B.a2 x2 ∗ has c B.a3 x3 ∗ has c B.a4 x4 ∗ any (F := F) c B.a22 ∗ has c B.a23 H ∗ any (F := F) c B.a24)
      ⊢ WP c (assemble i B) (fun _ => iprop(has c B.a1 x1 ∗ has c B.a2 x2 ∗ has c B.a3 x3 ∗ has c B.a4 x4
        ∗ has c B.a22 (xe i x1 x2 x3 x4) ∗ has c B.a23 H ∗ has c B.a24 H)) := by
  iintro ⟨H1, H2, H3, H4, ⟨%d22, H22⟩, H23, ⟨%d24, H24⟩⟩
  unfold assemble
  iapply (wp_ld c) $$ H23
  iintro H23
  iapply (wp_ld c) $$ H24
  iintro H24
  iapply (wp_stF c) $$ H24
  iintro H24
  iapply (wp_ld c) $$ H1
  iintro H1
  iapply (wp_ld c) $$ H22
  iintro H22
  iapply (wp_stF c) $$ H22
  iintro H22
  iapply (wp_ld c) $$ H4
  iintro H4
  iapply (wp_ld c) $$ H1
  iintro H1
  iapply (wp_ld c) $$ H22
  iintro H22
  iapply (wp_stF c) $$ H22
  iintro H22
  iapply (wp_ld c) $$ H2
  iintro H2
  iapply (wp_ld c) $$ H22
  iintro H22
  iapply (wp_stF c) $$ H22
  iintro H22
  iapply (wp_ld c) $$ H3
  iintro H3
  iapply (wp_ld c) $$ H22
  iintro H22
  iapply (wp_stF_last c) $$ H22
  iintro H22
  isplitl [H1]; · iexact H1
  isplitl [H2]; · iexact H2
  isplitl [H3]; · iexact H3
  isplitl [H4]; · iexact H4
  isplitl [H22]
  · rw [show xe i x1 x2 x3 x4 = xeOver i x1 x2 x3 x4 d22 from xeOver_eq i x1 x2 x3 x4 _ _]
    iexact H22
  isplitl [H23]; · iexact H23
  have e : put d24 ![0, 0] ![544, 1024] (k0_pay45 (window H ![0, 0] ![544, 1024] (inb2 (le_refl _) (le_refl _)))) = H := by
    refine (put_all (s := S544x1024) d24 (off := ![0, 0]) (inb2 (le_refl _) (le_refl _)) _).trans ?_
    exact (shapeCast_self _ _).trans (window_all (s := S544x1024) H _)
  iapply (has_eq c e) $$ H24

/-! ### The mixer's chunks -/

/-- The gated product of chunk `j` of the mixer. -/
def sV (i : grid0.Coords) (x : Vec F S560x1024 .f32) (W : Vec F S1024x3072 .bf16) (x5 : Vec F S1x3072 .f32) (j : ℕ) (hj : j < 4) :
    Vec F S560x256 .f32 :=
  shapeCast S560x256
    (mixS (okX (tileM i)) (truncf .bf16 x bitsLt_bf16_f32)
      (window W ![0, 1024 + 256 * j] ![1024, 256] (inb2 (by omega) (by omega)))
      (window x5 ![0, 1024 + 256 * j] ![1, 256] (inb2 (by omega) (by omega)))
      (window W ![0, 2048 + 256 * j] ![1024, 256] (inb2 (by omega) (by omega)))
      (window x5 ![0, 2048 + 256 * j] ![1, 256] (inb2 (by omega) (by omega)))) rfl

/-- The taps of the mixer's convolution, without the layer axis. -/
abbrev tapsV (x6 : Vec F S1x3x1024 .f32) : Vec F S3x1024 .f32 := shapeCast S3x1024 x6 rfl

/-- Chunk `j` of the mixer's result before its second product. -/
def yV (i : grid0.Coords) (x : Vec F S560x1024 .f32) (W : Vec F S1024x3072 .bf16) (x5 : Vec F S1x3072 .f32)
    (x6 : Vec F S1x3x1024 .f32) (x7 : Vec F S1x1024 .f32) (j : ℕ) (hj : j < 4) : Vec F S544x256 .bf16 :=
  mixY (truncf .bf16 (window x ![8, 0] ![544, 1024] (inb2 (by decide) (by decide))) bitsLt_bf16_f32)
    (window W ![0, 256 * j] ![1024, 256] (inb2 (by omega) (by omega)))
    (window x5 ![0, 256 * j] ![1, 256] (inb2 (by omega) (by omega)))
    (window (tapsV x6) ![1, 256 * j] ![1, 256] (inb2 (by omega) (by omega)))
    (window (sV i x W x5 j hj) ![8, 0] ![544, 256] (inb2 (by omega) (by omega)))
    (window (tapsV x6) ![0, 256 * j] ![1, 256] (inb2 (by omega) (by omega)))
    (window (sV i x W x5 j hj) ![7, 0] ![544, 256] (inb2 (by omega) (by omega)))
    (window (tapsV x6) ![2, 256 * j] ![1, 256] (inb2 (by omega) (by omega)))
    (window (sV i x W x5 j hj) ![9, 0] ![544, 256] (inb2 (by omega) (by omega)))
    (window x7 ![0, 256 * j] ![1, 256] (inb2 (by omega) (by omega)))

theorem mixChunk_spec (i : grid0.Coords) (x : Vec F S560x1024 .f32) (W : Vec F S1024x3072 .bf16) (x5 : Vec F S1x3072 .f32)
    (x6 : Vec F S1x3x1024 .f32) (x7 : Vec F S1x1024 .f32) (d : Vec F S544x1024 .bf16) (j k : ℕ) (hj : j < 4) (hk : k < 2) :
    iprop(has c B.a30 W ∗ has c B.a5 x5 ∗ has c B.a6 x6 ∗ has c B.a7 x7 ∗ any (F := F) c B.a28 ∗ has c B.a29 d)
      ⊢ WP c (mixChunk B (okX (tileM i)) (truncf .bf16 x bitsLt_bf16_f32)
          (truncf .bf16 (window x ![8, 0] ![544, 1024] (inb2 (by decide) (by decide))) bitsLt_bf16_f32) j k hj hk)
        (fun _ => iprop(has c B.a30 W ∗ has c B.a5 x5 ∗ has c B.a6 x6 ∗ has c B.a7 x7 ∗ any (F := F) c B.a28
          ∗ has c B.a29 (put d ![0, 256 * j] ![544, 256] (yV i x W x5 x6 x7 j hj)))) := by
  iintro ⟨H30, H5, H6, H7, ⟨%d28, H28⟩, H29⟩
  unfold mixChunk
  iapply (wp_ld c) $$ H30
  iintro H30
  iapply (wp_ld_slice c) $$ H5
  iintro H5
  iapply (wp_ld c) $$ H30
  iintro H30
  iapply (wp_ld_slice c) $$ H5
  iintro H5
  iapply (wp_ld c) $$ H28
  iintro H28
  iapply (wp_stF c) $$ H28
  iintro H28
  iapply (wp_ld c) $$ H30
  iintro H30
  iapply (wp_ld_slice c) $$ H5
  iintro H5
  iapply (wp_ld_sq c) $$ H6
  iintro H6
  iapply (wp_ld_sq c) $$ H28
  iintro H28
  iapply (wp_ld_sq c) $$ H6
  iintro H6
  iapply (wp_ld_sq c) $$ H28
  iintro H28
  iapply (wp_ld_sq c) $$ H6
  iintro H6
  iapply (wp_ld_sq c) $$ H28
  iintro H28
  iapply (wp_ld_slice c) $$ H7
  iintro H7
  iapply (wp_ld c) $$ H29
  iintro H29
  iapply (wp_stH_last c) $$ H29
  iintro H29
  isplitl [H30]; · iexact H30
  isplitl [H5]; · iexact H5
  isplitl [H6]; · iexact H6
  isplitl [H7]; · iexact H7
  isplitl [H28]; · iexists _; iexact H28
  iapply (has_eq c ?_) $$ H29
  refine congrArg (put d ![0, 256 * j] ![544, 256]) ?_
  have e5 : window x5 ![0, 0] ![1, 3072] inb_S1x3072_S1x3072_0_0 = x5 := window_all (s := S1x3072) x5 _
  have e6 : window x6 ![0, 0, 0] ![1, 3, 1024] inb_S1x3x1024_S1x3x1024_0_0_0 = x6 := window_all (s := S1x3x1024) x6 _
  have e7 : window x7 ![0, 0] ![1, 1024] inb_S1x1024_S1x1024_0_0 = x7 := window_all (s := S1x1024) x7 _
  rw [e5, e6, e7, window_put_same]
  rfl

/-- A matrix given by its chunks of 256 columns. -/
def byCols {n m k : ℕ} {α : Type} (hm : m ≤ 256 * k) (w : (j : ℕ) → j < k → (⟨2, ![n, 256]⟩ : Shape).Idx → α) :
    (⟨2, ![n, m]⟩ : Shape).Idx → α := fun y =>
  w ((y 1).val / 256) (Nat.div_lt_of_lt_mul (lt_of_lt_of_le (y 1).isLt hm)) (fun a => match a with
    | ⟨0, _⟩ => y 0
    | ⟨1, _⟩ => ⟨(y 1).val % 256, Nat.mod_lt _ (by decide)⟩)

/-- Chunk `j` put in place extends the columns that agree with the matrix by 256. -/
theorem put_byCols {n m k : ℕ} {α : Type} {hm : m ≤ 256 * k} {w : (j : ℕ) → j < k → (⟨2, ![n, 256]⟩ : Shape).Idx → α}
    {d : (⟨2, ![n, m]⟩ : Shape).Idx → α} (j : ℕ) (hj : j < k)
    (h : ∀ y : (⟨2, ![n, m]⟩ : Shape).Idx, (y 1).val < 256 * j → d y = byCols hm w y) :
    ∀ y : (⟨2, ![n, m]⟩ : Shape).Idx, (y 1).val < 256 * (j + 1) → put d ![0, 256 * j] ![n, 256] (w j hj) y = byCols hm w y := by
  intro y hy
  have h0 : (y 0).val < n := (y 0).isLt
  unfold put
  split
  · rename_i a
    have a1 : 256 * j ≤ (y 1).val := (a 1).1
    obtain rfl : j = (y 1).val / 256 := by omega
    refine congrArg (w _ hj) (funext fun b => Fin.ext ?_)
    match b with
    | ⟨0, _⟩ => exact Nat.sub_zero _
    | ⟨1, _⟩ => show (y 1).val - 256 * ((y 1).val / 256) = (y 1).val % 256; omega
  · rename_i a
    refine h y ?_
    by_contra hc
    refine a fun b => ?_
    match b with
    | ⟨0, _⟩ => exact ⟨Nat.zero_le _, by show (y 0).val < 0 + n; omega⟩
    | ⟨1, _⟩ => exact ⟨by show 256 * j ≤ (y 1).val; omega, by show (y 1).val < 256 * j + 256; omega⟩

/-- The mixer's result before its second product, all columns. -/
def yA (i : grid0.Coords) (x : Vec F S560x1024 .f32) (W : Vec F S1024x3072 .bf16) (x5 : Vec F S1x3072 .f32)
    (x6 : Vec F S1x3x1024 .f32) (x7 : Vec F S1x1024 .f32) : Vec F S544x1024 .bf16 :=
  byCols (m := 1024) (k := 4) (by decide) (yV i x W x5 x6 x7)

theorem mixChunks_spec (i : grid0.Coords) (x : Vec F S560x1024 .f32) (W : Vec F S1024x3072 .bf16) (x5 : Vec F S1x3072 .f32)
    (x6 : Vec F S1x3x1024 .f32) (x7 : Vec F S1x1024 .f32) :
    iprop(has c B.a22 x ∗ has c B.a30 W ∗ has c B.a5 x5 ∗ has c B.a6 x6 ∗ has c B.a7 x7 ∗ any (F := F) c B.a28 ∗ any (F := F) c B.a29)
      ⊢ WP c (mixChunks i B)
        (fun _ => iprop(has c B.a22 x ∗ has c B.a30 W ∗ has c B.a5 x5 ∗ has c B.a6 x6 ∗ has c B.a7 x7 ∗ any (F := F) c B.a28
          ∗ has c B.a29 (yA i x W x5 x6 x7))) := by
  iintro ⟨H22, H30, H5, H6, H7, H28, ⟨%d29, H29⟩⟩
  unfold mixChunks
  iapply (wp_ld c) $$ H22
  iintro H22
  iapply (wp_ld c) $$ H22
  iintro H22
  have e22 : window x ![0, 0] ![560, 1024] (inb2 (by decide) (by decide)) = x := window_all (s := S560x1024) x _
  rw [e22]
  have hl := wp_steps c (f := fun j => if h : j < 4 then
      mixChunk B (okX (tileM i)) (truncf .bf16 x bitsLt_bf16_f32)
        (truncf .bf16 (window x ![8, 0] ![544, 1024] (inb2 (by decide) (by decide))) bitsLt_bf16_f32) j (j % 2) h (Nat.mod_lt _ (by decide))
      else .ret ⟨⟩)
    (I := fun j => iprop(has c B.a30 W ∗ has c B.a5 x5 ∗ has c B.a6 x6 ∗ has c B.a7 x7 ∗ any (F := F) c B.a28
      ∗ (∃ d : Vec F S544x1024 .bf16, ⌜∀ y, (y 1).val < 256 * j → d y = yA i x W x5 x6 x7 y⌝ ∗ has c B.a29 d) ∗ has c B.a22 x)) 4 0 (by
    intro j _ hj
    have hj : j < 4 := by omega
    simp only [dif_pos hj]
    iintro ⟨H30, H5, H6, H7, H28, ⟨%d, %hd, H29⟩, H22⟩
    iapply (wp_wand _ _ _ (Q := _)) $$ [H30 H5 H6 H7 H28 H29]
    · iapply (mixChunk_spec c B i x W x5 x6 x7 d j (j % 2) hj (Nat.mod_lt _ (by decide)))
      isplitl [H30]; · iexact H30
      isplitl [H5]; · iexact H5
      isplitl [H6]; · iexact H6
      isplitl [H7]; · iexact H7
      isplitl [H28]; · iexact H28
      iexact H29
    iintro %_ ⟨H30, H5, H6, H7, H28, H29⟩
    isplitl [H30]; · iexact H30
    isplitl [H5]; · iexact H5
    isplitl [H6]; · iexact H6
    isplitl [H7]; · iexact H7
    isplitl [H28]; · iexact H28
    isplitl [H29]
    · iexists _
      isplitr
      · ipureintro
        exact put_byCols j hj hd
      · iexact H29
    · iexact H22)
  iapply (wp_wand _ _ _ (Q := _)) $$ [H22 H30 H5 H6 H7 H28 H29]
  · iapply hl
    isplitl [H30]; · iexact H30
    isplitl [H5]; · iexact H5
    isplitl [H6]; · iexact H6
    isplitl [H7]; · iexact H7
    isplitl [H28]; · iexact H28
    isplitl [H29]
    · iexists d29
      isplitr
      · ipureintro; intro y h; omega
      · iexact H29
    · iexact H22
  iintro %_ ⟨H30, H5, H6, H7, H28, ⟨%d, %hd, H29⟩, H22⟩
  isplitl [H22]; · iexact H22
  isplitl [H30]; · iexact H30
  isplitl [H5]; · iexact H5
  isplitl [H6]; · iexact H6
  isplitl [H7]; · iexact H7
  isplitl [H28]; · iexact H28
  iapply (has_eq c ?_) $$ H29
  funext y
  exact hd y (y 1).isLt

/-! ### The feed forward's chunks -/

/-- Layer 1 of the feed forward's input bias. -/
abbrev b11 (x11 : Vec F S2x5632 .f32) : Vec F S1x5632 .f32 := window x11 ![1, 0] ![1, 5632] (inb2 (by decide) (by decide))
/-- Layer 1 of the feed forward's convolution taps. -/
abbrev t12 (x12 : Vec F S2x3x2816 .f32) : Vec F S3x2816 .f32 :=
  shapeCast S3x2816 (window x12 ![1, 0, 0] ![1, 3, 2816] (inb3 (by decide) (by decide) (by decide)) : Vec F S1x3x2816 .f32) rfl
/-- Layer 1 of the feed forward's convolution bias. -/
abbrev b13 (x13 : Vec F S2x2816 .f32) : Vec F S1x2816 .f32 := window x13 ![1, 0] ![1, 2816] (inb2 (by decide) (by decide))

/-- Which rows of a tile of `544` rows starting at sequence position `p - 16` are in the sequence. -/
abbrev okF (i : grid0.Coords) : IVec S544x1 1 := k0_pay76 (Scalar.subi (Scalar.muli (tileF i) 512#32) 16#32)

/-- The gate of chunk `j` of the feed forward. -/
def gV (i : grid0.Coords) (H : Vec F S544x1024 .f32) (W : Vec F S1024x5632 .bf16) (x11 : Vec F S2x5632 .f32) (j : ℕ) (hj : j < 11) :
    Vec F S544x256 .f32 :=
  shapeCast S544x256
    (ffnG (okF i) (truncf .bf16 H bitsLt_bf16_f32)
      (window W ![0, 256 * j] ![1024, 256] (inb2 (by omega) (by omega)))
      (window (b11 x11) ![0, 256 * j] ![1, 256] (inb2 (by omega) (by omega)))) rfl

/-- The activation of chunk `j` of the feed forward. -/
def aV (i : grid0.Coords) (H : Vec F S544x1024 .f32) (W : Vec F S1024x5632 .bf16) (x11 : Vec F S2x5632 .f32)
    (x12 : Vec F S2x3x2816 .f32) (x13 : Vec F S2x2816 .f32) (j : ℕ) (hj : j < 11) : Vec F S528x256 .bf16 :=
  ffnA (truncf .bf16 (window H ![8, 0] ![528, 1024] (inb2 (by decide) (by decide))) bitsLt_bf16_f32)
    (window W ![0, 2816 + 256 * j] ![1024, 256] (inb2 (by omega) (by omega)))
    (window (b11 x11) ![0, 2816 + 256 * j] ![1, 256] (inb2 (by omega) (by omega)))
    (ffnC
      (window (t12 x12) ![1, 256 * j] ![1, 256] (inb2 (by omega) (by omega)))
      (window (gV i H W x11 j hj) ![8, 0] ![528, 256] (inb2 (by omega) (by omega)))
      (window (t12 x12) ![0, 256 * j] ![1, 256] (inb2 (by omega) (by omega)))
      (window (gV i H W x11 j hj) ![7, 0] ![528, 256] (inb2 (by omega) (by omega)))
      (window (t12 x12) ![2, 256 * j] ![1, 256] (inb2 (by omega) (by omega)))
      (window (gV i H W x11 j hj) ![9, 0] ![528, 256] (inb2 (by omega) (by omega)))
      (window (b13 x13) ![0, 256 * j] ![1, 256] (inb2 (by omega) (by omega))))

/-- The feed forward's activation, all columns. -/
def aA (i : grid0.Coords) (H : Vec F S544x1024 .f32) (W : Vec F S1024x5632 .bf16) (x11 : Vec F S2x5632 .f32)
    (x12 : Vec F S2x3x2816 .f32) (x13 : Vec F S2x2816 .f32) : Vec F S528x2816 .bf16 :=
  byCols (m := 2816) (k := 11) (by decide) (aV i H W x11 x12 x13)

theorem ffnChunk_spec (i : grid0.Coords) (H : Vec F S544x1024 .f32) (W : Vec F S1024x5632 .bf16) (x11 : Vec F S2x5632 .f32)
    (x12 : Vec F S2x3x2816 .f32) (x13 : Vec F S2x2816 .f32) (d : Vec F S528x2816 .bf16) (j k : ℕ) (hj : j < 11) (hk : k < 2) :
    iprop(has c B.a32 W ∗ has c B.a11 x11 ∗ has c B.a12 x12 ∗ has c B.a13 x13 ∗ any (F := F) c B.a25 ∗ has c B.a26 d)
      ⊢ WP c (ffnChunk B (okF i) (truncf .bf16 H bitsLt_bf16_f32)
          (truncf .bf16 (window H ![8, 0] ![528, 1024] (inb2 (by decide) (by decide))) bitsLt_bf16_f32) j k hj hk)
        (fun _ => iprop(has c B.a32 W ∗ has c B.a11 x11 ∗ has c B.a12 x12 ∗ has c B.a13 x13 ∗ any (F := F) c B.a25
          ∗ has c B.a26 (put d ![0, 256 * j] ![528, 256] (aV i H W x11 x12 x13 j hj)))) := by
  iintro ⟨H32, H11, H12, H13, ⟨%d25, H25⟩, H26⟩
  unfold ffnChunk
  iapply (wp_ld c) $$ H32
  iintro H32
  iapply (wp_ld_slice c) $$ H11
  iintro H11
  iapply (wp_ld c) $$ H25
  iintro H25
  iapply (wp_stF c) $$ H25
  iintro H25
  iapply (wp_ld c) $$ H32
  iintro H32
  iapply (wp_ld_slice c) $$ H11
  iintro H11
  iapply (wp_ld_sq c) $$ H12
  iintro H12
  iapply (wp_ld_sq c) $$ H25
  iintro H25
  iapply (wp_ld_sq c) $$ H12
  iintro H12
  iapply (wp_ld_sq c) $$ H25
  iintro H25
  iapply (wp_ld_sq c) $$ H12
  iintro H12
  iapply (wp_ld_sq c) $$ H25
  iintro H25
  iapply (wp_ld_slice c) $$ H13
  iintro H13
  iapply (wp_ld c) $$ H26
  iintro H26
  iapply (wp_stH_last c) $$ H26
  iintro H26
  isplitl [H32]; · iexact H32
  isplitl [H11]; · iexact H11
  isplitl [H12]; · iexact H12
  isplitl [H13]; · iexact H13
  isplitl [H25]; · iexists _; iexact H25
  iapply (has_eq c ?_) $$ H26
  refine congrArg (put d ![0, 256 * j] ![528, 256]) ?_
  rw [window_put_same]
  rfl

theorem ffnChunks_spec (i : grid0.Coords) (H : Vec F S544x1024 .f32) (W : Vec F S1024x5632 .bf16) (x11 : Vec F S2x5632 .f32)
    (x12 : Vec F S2x3x2816 .f32) (x13 : Vec F S2x2816 .f32) :
    iprop(has c B.a24 H ∗ has c B.a32 W ∗ has c B.a11 x11 ∗ has c B.a12 x12 ∗ has c B.a13 x13 ∗ any (F := F) c B.a25 ∗ any (F := F) c B.a26)
      ⊢ WP c (ffnChunks i B)
        (fun _ => iprop(has c B.a24 H ∗ has c B.a32 W ∗ has c B.a11 x11 ∗ has c B.a12 x12 ∗ has c B.a13 x13 ∗ any (F := F) c B.a25
          ∗ has c B.a26 (aA i H W x11 x12 x13))) := by
  iintro ⟨H24, H32, H11, H12, H13, H25, ⟨%d26, H26⟩⟩
  unfold ffnChunks
  iapply (wp_ld c) $$ H24
  iintro H24
  iapply (wp_ld c) $$ H24
  iintro H24
  have e24 : window H ![0, 0] ![544, 1024] (inb2 (by decide) (by decide)) = H := window_all (s := S544x1024) H _
  rw [e24]
  have hl := wp_steps c (f := fun j => if h : j < 11 then
      ffnChunk B (okF i) (truncf .bf16 H bitsLt_bf16_f32)
        (truncf .bf16 (window H ![8, 0] ![528, 1024] (inb2 (by decide) (by decide))) bitsLt_bf16_f32) j (j % 2) h (Nat.mod_lt _ (by decide))
      else .ret ⟨⟩)
    (I := fun j => iprop(has c B.a32 W ∗ has c B.a11 x11 ∗ has c B.a12 x12 ∗ has c B.a13 x13 ∗ any (F := F) c B.a25
      ∗ (∃ d : Vec F S528x2816 .bf16, ⌜∀ y, (y 1).val < 256 * j → d y = aA i H W x11 x12 x13 y⌝ ∗ has c B.a26 d) ∗ has c B.a24 H)) 11 0 (by
    intro j _ hj
    have hj : j < 11 := by omega
    simp only [dif_pos hj]
    iintro ⟨H32, H11, H12, H13, H25, ⟨%d, %hd, H26⟩, H24⟩
    iapply (wp_wand _ _ _ (Q := _)) $$ [H32 H11 H12 H13 H25 H26]
    · iapply (ffnChunk_spec c B i H W x11 x12 x13 d j (j % 2) hj (Nat.mod_lt _ (by decide)))
      isplitl [H32]; · iexact H32
      isplitl [H11]; · iexact H11
      isplitl [H12]; · iexact H12
      isplitl [H13]; · iexact H13
      isplitl [H25]; · iexact H25
      iexact H26
    iintro %_ ⟨H32, H11, H12, H13, H25, H26⟩
    isplitl [H32]; · iexact H32
    isplitl [H11]; · iexact H11
    isplitl [H12]; · iexact H12
    isplitl [H13]; · iexact H13
    isplitl [H25]; · iexact H25
    isplitl [H26]
    · iexists _
      isplitr
      · ipureintro
        exact put_byCols j hj hd
      · iexact H26
    · iexact H24)
  iapply (wp_wand _ _ _ (Q := _)) $$ [H24 H32 H11 H12 H13 H25 H26]
  · iapply hl
    isplitl [H32]; · iexact H32
    isplitl [H11]; · iexact H11
    isplitl [H12]; · iexact H12
    isplitl [H13]; · iexact H13
    isplitl [H25]; · iexact H25
    isplitl [H26]
    · iexists d26
      isplitr
      · ipureintro; intro y h; omega
      · iexact H26
    · iexact H24
  iintro %_ ⟨H32, H11, H12, H13, H25, ⟨%d, %hd, H26⟩, H24⟩
  isplitl [H24]; · iexact H24
  isplitl [H32]; · iexact H32
  isplitl [H11]; · iexact H11
  isplitl [H12]; · iexact H12
  isplitl [H13]; · iexact H13
  isplitl [H25]; · iexact H25
  iapply (has_eq c ?_) $$ H26
  funext y
  exact hd y (y 1).isLt

end Cert.Proof
-- ==== Proof.Ring.lean ====
/-
  The copies of the weights into the core's memory at the first grid point. Each weight comes in `n` pieces of `h` rows
  through a ring of five staging slots: four copies are started, then for each piece the copy four pieces ahead is
  started, the piece's own copy is waited for, and its rows are rounded to 16 bits and stored. The five slots are
  described one by one, each holding its own share of the weight's array.
-/
module

public import proofs.«01_k».proof.Proof.Body
public import Idealize.ShloMosaic.Lib.Transfers
public import Idealize.ShloMosaic.Lib.MemrefSat

@[expose] public section

set_option maxRecDepth 16384
set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open VecWindow

variable {F : FTy → Type} [FloatOps F]

local notation "𝕄" => MT nD τ sig Unit (Elt F) ℕ (Pipeline.UD sig nD τ) ℕ

/-- The sizes of one ring: `n` pieces of `h` rows make the `R` rows of layer `l` of an array of `L` layers. -/
structure Sizes (L R w h n l : ℕ) : Prop where
  hl : l + 1 ≤ L
  hR : h * n = R
  h2 : 2 ∣ h
  n4 : 4 ≤ n
  hq : (⟨3, ![1, h, w]⟩ : Shape).Squeezes ⟨2, ![h, w]⟩
  p2 : 0 < (⟨2, ![h, w]⟩ : Shape).numel
  p3 : 0 < (⟨3, ![1, h, w]⟩ : Shape).numel

theorem Sizes.row {L R w h n l : ℕ} (Z : Sizes L R w h n l) {c : ℕ} (hc : c < n) : h * c + h ≤ R := by
  have := Z.hR
  have : h * (c + 1) ≤ h * n := Nat.mul_le_mul_left h hc
  rw [Nat.mul_succ] at this
  omega

variable {L R w h n l : ℕ} (Z : Sizes L R w h n l)
  (src : Memref sig .tc .hbm ⟨3, ![L, R, w]⟩ .f32) (dst : Memref sig .tc .vmem ⟨2, ![R, w]⟩ .bf16) (hdst : dst.IsWhole)
  (st : Memref sig .tc .vmem ⟨3, ![5, h, w]⟩ .f32) (sm : DmaSems sig S5)

/-- Piece `c` of the array. -/
abbrev piece (c : ℕ) (hc : c < n) : Memref sig .tc .hbm ⟨2, ![h, w]⟩ .f32 :=
  (src.slice (Rect.unit (s := ⟨3, ![L, R, w]⟩) ![l, h * c, 0] ![1, h, w] (inb3 Z.hl (Z.row hc) (by omega))) (fun _ => rfl)).squeeze
    ⟨2, ![h, w]⟩ Z.hq

/-- Staging slot `k`. -/
abbrev slot (k : ℕ) (hk : k < 5) : Memref sig .tc .vmem ⟨2, ![h, w]⟩ .f32 :=
  (st.slice (Rect.unit (s := ⟨3, ![5, h, w]⟩) ![k, 0, 0] ![1, h, w] (inb3 hk (by omega) (by omega))) (fun _ => rfl)).squeeze
    ⟨2, ![h, w]⟩ Z.hq

theorem inb1 {k : ℕ} (hk : k < 5) : ∀ a : Fin 1, (![k] : Fin 1 → ℕ) a + S1.size a ≤ S5.size a := by
  intro a; fin_cases a; exact hk

/-- The semaphore of slot `k`. -/
abbrev cell (k : ℕ) (hk : k < 5) : DmaSem sig :=
  ((sm.slice (Rect.unit (s := S5) ![k] S1.size (inb1 hk))).squeeze S_ squeezes_S1_S_).sem

/-- Start the copy of piece `c` into slot `k`. -/
def start (c : ℕ) (hc : c < n) (k : ℕ) (hk : k < 5) : P F PUnit :=
  Prog.lift (.enqueueDma (piece Z src c hc) (.here (slot Z st k hk)) (.dma (cell sm k hk))
    ((View.wordExact_bits rfl).reshape _ _) ((View.wordExact_bits rfl).reshape _ _) ⟨Or.inl rfl, trivial⟩)

/-- Wait for piece `c` in slot `k`. -/
def await (c : ℕ) (hc : c < n) (k : ℕ) (hk : k < 5) : P F PUnit :=
  Prog.lift (.waitDma2 (cell sm k hk) (piece Z src c hc) (slot Z st k hk)
    ((View.wordExact_bits rfl).reshape _ _) ((View.wordExact_bits rfl).reshape _ _))

/-- Move piece `c` from slot `k` to its rows, rounded to 16 bits. -/
def settle (c : ℕ) (hc : c < n) (k : ℕ) (hk : k < 5) : P F PUnit := do
  let v ← ld st ![k, 0, 0] ![1, h, w] (inb3 hk (by omega) (by omega)) Z.p3
  let _ ← ld dst ![h * c, 0] ![h, w] (inb2 (Z.row hc) (by omega)) Z.p2
  stH dst hdst ![h * c, 0] ![h, w] (inb2 (Z.row hc) (by omega)) Z.p2 (packed2 _ (Z.h2.mul_right _) Z.h2)
    (shapeCast ⟨2, ![h, w]⟩ (truncf .bf16 (shapeCast ⟨2, ![h, w]⟩ (v : FVec F ⟨3, ![1, h, w]⟩ .f32) Z.hq.numel_eq) bitsLt_bf16_f32) rfl)

theorem mod5 (c : ℕ) : c % 5 < 5 := Nat.mod_lt _ (by decide)

/-- Piece `c`'s turn. -/
def turn (c : ℕ) : P F PUnit :=
  if hc : c < n then
    (if h4 : c + 4 < n then start Z src st sm (c + 4) h4 ((c + 4) % 5) (mod5 _) else .ret ⟨⟩) >>= fun _ =>
    await Z src st sm c hc (c % 5) (mod5 _) >>= fun _ => settle Z dst hdst st c hc (c % 5) (mod5 _)
  else .ret ⟨⟩

/-- The whole ring. -/
def ring : P F PUnit :=
  loop (fun j => if hj : j < 4 then start Z src st sm j (by have := Z.n4; omega) j (by omega) else .ret ⟨⟩) 4 >>= fun _ =>
  loop (turn Z src dst hdst st sm) n

/-! ### What each step does -/

variable (c : Dev nD) (X : (⟨3, ![L, R, w]⟩ : Shape).Idx → Elt F .f32)

/-- The values of piece `j`. -/
def pay (j : ℕ) (hj : j < n) : (⟨2, ![h, w]⟩ : Shape).Idx → Elt F .f32 :=
  shapeCast ⟨2, ![h, w]⟩ (window X ![l, h * j, 0] ![1, h, w] (inb3 Z.hl (Z.row hj) (by omega))) Z.hq.numel_eq

/-- A share of the array for each slot. -/
def part : ℕ → PosShare TreeShare
  | 0 => fullShare.left
  | 1 => fullShare.right.left
  | 2 => fullShare.right.right.left
  | 3 => fullShare.right.right.right.left
  | _ => fullShare.right.right.right.right

local notation "EC" => (countersEmb (U := Pipeline.UD sig nD τ) : UEmb _ 𝕄)

/-- Slot `k` with no copy under way. -/
def idle (k : ℕ) (hk : k < 5) : sProp 𝕄 :=
  iprop(any (F := F) c (slot Z st k hk) ∗ semVal ((c : Thread nD τ), SemLoc.dma (cell sm k hk)) 0
    ∗ owns (c : Thread nD τ) src (part k) X)

/-- Slot `k` with the copy of piece `j` under way. -/
def busy (j : ℕ) (hj : j < n) (k : ℕ) (hk : k < 5) : sProp 𝕄 :=
  iprop(∃ f, ⌜src.view.read (Elt F) f = X⌝
    ∗ Flight EC (c : Thread nD τ) (.dma (cell sm k hk)) () (slot Z st k hk).view.dmaCredit
        iprop(has c (slot Z st k hk) (pay Z X j hj)
          ∗ (src.view.loc (c : Thread nD τ) ↦[(piece Z src j hj).view.set]{part k} f))
    ∗ (src.view.loc (c : Thread nD τ) ↦[src.view.set \ (piece Z src j hj).view.set]{part k} f))

theorem piece_sub (j : ℕ) (hj : j < n) : (piece Z src j hj).view.set ⊆ src.view.set :=
  (View.set_reshape _ _).subset.trans (View.set_slice_subset _ _)

theorem start_spec (j : ℕ) (hj : j < n) (k : ℕ) (hk : k < 5) :
    idle Z src st sm c X k hk ⊢ WP c (start Z src st sm j hj k hk) (fun _ => busy Z src st sm c X j hj k hk) := by
  unfold idle busy start any has owns
  iintro ⟨⟨%d, %fd, %hd, Hd⟩, Hv, ⟨%f, %hf, Hs⟩⟩
  ihave Hs2 := (pointsTo_split_subset (piece_sub Z src j hj)).1 $$ Hs
  icases Hs2 with ⟨Hp, Hr⟩
  iapply (wp_dmaLocal EC Variants.none (c : Thread nD τ) none (src := piece Z src j hj) (dst := slot Z st k hk)
    (fs := f) (fd := fd) (q := part k) () (slot Z st k hk).view.dmaCredit rfl (View.dmaCredit_pos _ Z.p2) (Finset.Subset.refl _)) $$ [Hp Hd Hv]
  · isplitl [Hp]; · iexact Hp
    isplitl [Hd]; · iexact Hd
    iexact Hv
  iintro Hf
  iapply (le_wp_ret frame _ Set.univ PUnit.unit _)
  iexists f
  isplitr; · ipureintro; exact hf
  isplitl [Hf]
  · iapply (Flight_mono EC (c : Thread nD τ) (by
      iintro ⟨H, Hp⟩
      isplitl [H]
      · iexists _
        isplitr; swap; · iexact H
        ipureintro
        rw [View.read_write_univ, ReadAs.apply_same, ← hf]
        rfl
      · iexact Hp)) $$ Hf
  · iexact Hr

theorem await_spec (j : ℕ) (hj : j < n) (k : ℕ) (hk : k < 5) :
    iprop(busy Z src st sm c X j hj k hk ∗ (∃ W, owes (c : Thread nD τ) 0 W))
      ⊢ WP c (await Z src st sm j hj k hk) (fun _ => iprop(has c (slot Z st k hk) (pay Z X j hj)
        ∗ semVal ((c : Thread nD τ), SemLoc.dma (cell sm k hk)) 0 ∗ owns (c : Thread nD τ) src (part k) X
        ∗ (∃ W, owes (c : Thread nD τ) 0 W))) := by
  unfold busy await has owns
  iintro ⟨⟨%f, %hf, Hf, Hr⟩, ⟨%W, HW⟩⟩
  iapply (wp_waitLocal EC Variants.none (c : Thread nD τ) none (srcw := piece Z src j hj) (dstw := slot Z st k hk) () rfl) $$ [Hf HW]
  · isplitl [Hf]; · iexact Hf
    iexact HW
  iintro ⟨⟨Hd, Hp⟩, Hv, HW⟩
  iapply (le_wp_ret frame _ Set.univ PUnit.unit _)
  isplitl [Hd]; · iexact Hd
  isplitl [Hv]; · iexact Hv
  isplitl [Hp Hr]
  · iexists f
    isplitr; · ipureintro; exact hf
    iapply (pointsTo_split_subset (piece_sub Z src j hj)).2
    isplitl [Hp]; · iexact Hp
    iexact Hr
  · iexists _; iexact HW

theorem settle_spec (j : ℕ) (hj : j < n) (k : ℕ) (hk : k < 5) (d : (⟨2, ![R, w]⟩ : Shape).Idx → Elt F .bf16) :
    iprop(has c (slot Z st k hk) (pay Z X j hj) ∗ has c dst d)
      ⊢ WP c (settle Z dst hdst st j hj k hk) (fun _ => iprop(any (F := F) c (slot Z st k hk)
        ∗ has c dst (put d ![h * j, 0] ![h, w] (truncf .bf16 (pay Z X j hj : FVec F ⟨2, ![h, w]⟩ .f32) bitsLt_bf16_f32)))) := by
  unfold settle
  iintro ⟨Hs, Hd⟩
  ihave Hs' := (show (has c (slot Z st k hk) (pay Z X j hj) : sProp 𝕄) ⊢ iprop(∃ f, ⌜(slot Z st k hk).view.read (Elt F) f = pay Z X j hj⌝
    ∗ ((slot Z st k hk).view.loc (c : Thread nD τ) ↦[(slot Z st k hk).view.set]{fullShare} f)) from .rfl) $$ Hs
  icases Hs' with ⟨%f, %hf, Hs⟩
  iapply (wp_load Variants.none (c : Thread nD τ) none Set.univ (m := st) (S := (slot Z st k hk).view.set) (by
    refine Finset.Subset.trans ?_ (View.set_reshape _ _).symm.subset
    rw [View.set_slice]; exact Finset.Subset.refl _)) $$ Hs
  iintro Hs
  iapply (wp_ld c (hn := Z.p2)) $$ Hd
  iintro Hd
  iapply (wp_stH_last c (hm := hdst) (hn := Z.p2) (hp := packed2 _ (Z.h2.mul_right _) Z.h2)) $$ Hd
  iintro Hd
  isplitl [Hs]
  · iexists _
    unfold has owns
    iexists _; isplitr; swap; · iexact Hs
    ipureintro; rfl
  · iapply (has_eq c (by rw [shapeCast_self, ← hf]; rfl)) $$ Hd

/-- The staged form of a weight: layer `l` of the array rounded to 16 bits. -/
def wt (X : (⟨3, ![L, R, w]⟩ : Shape).Idx → Elt F .f32) : (⟨2, ![R, w]⟩ : Shape).Idx → Elt F .bf16 :=
  truncf .bf16 (fun y => X (fun a => match a with
    | ⟨0, _⟩ => ⟨l, Z.hl⟩
    | ⟨1, _⟩ => y 0
    | ⟨2, _⟩ => y 1) : FVec F ⟨2, ![R, w]⟩ .f32) bitsLt_bf16_f32

theorem put_wt (j : ℕ) (hj : j < n) {d : (⟨2, ![R, w]⟩ : Shape).Idx → Elt F .bf16}
    (hd : ∀ y : (⟨2, ![R, w]⟩ : Shape).Idx, (y 0).val < h * j → d y = wt Z X y) :
    ∀ y : (⟨2, ![R, w]⟩ : Shape).Idx, (y 0).val < h * (j + 1) →
      put d ![h * j, 0] ![h, w] (truncf .bf16 (pay Z X j hj : FVec F ⟨2, ![h, w]⟩ .f32) bitsLt_bf16_f32) y = wt Z X y := by
  intro y hy
  have h1 : (y 1).val < w := (y 1).isLt
  rw [Nat.mul_succ] at hy
  unfold put
  split
  · rename_i a
    have a1 : h * j ≤ (y 0).val := (a 0).1
    refine congrArg (fun v : F .f32 => FloatOps.truncf .bf16 bitsLt_bf16_f32 v) ?_
    unfold pay
    rw [show shapeCast ⟨2, ![h, w]⟩ (window X ![l, h * j, 0] ![1, h, w] (inb3 Z.hl (Z.row hj) (by omega))) Z.hq.numel_eq
      = fun y => window X ![l, h * j, 0] ![1, h, w] (inb3 Z.hl (Z.row hj) (by omega)) (Fin.cons ⟨0, Nat.one_pos⟩ y) from
        funext fun y => shapeCast_dropUnit_apply ![h, w] _ Z.hq.numel_eq y]
    refine congrArg X (funext fun b => Fin.ext ?_)
    match b with
    | ⟨0, _⟩ => rfl
    | ⟨1, _⟩ => show h * j + 1 * ((y 0).val - h * j) = (y 0).val; omega
    | ⟨2, _⟩ => show 0 + 1 * ((y 1).val - 0) = (y 1).val; omega
  · rename_i a
    refine hd y ?_
    by_contra hc
    refine a fun b => ?_
    match b with
    | ⟨0, _⟩ => exact ⟨by show h * j ≤ (y 0).val; omega, by show (y 0).val < h * j + h; omega⟩
    | ⟨1, _⟩ => exact ⟨Nat.zero_le _, by show (y 1).val < 0 + w; omega⟩

/-! ### The ring -/

/-- What is held of the slot of piece `j`: its copy under way, or nothing once there is no such piece. -/
def held (j : ℕ) : sProp 𝕄 :=
  if hj : j < n then busy Z src st sm c X j hj (j % 5) (mod5 _) else idle Z src st sm c X (j % 5) (mod5 _)

theorem idle_eq {k k' : ℕ} {hk : k < 5} {hk' : k' < 5} (e : k = k') :
    idle Z src st sm c X k hk ⊢ idle Z src st sm c X k' hk' := by subst e; exact .rfl

theorem busy_eq {j k k' : ℕ} {hj : j < n} {hk : k < 5} {hk' : k' < 5} (e : k = k') :
    busy Z src st sm c X j hj k hk ⊢ busy Z src st sm c X j hj k' hk' := by subst e; exact .rfl

/-- What holds before piece `j`'s turn: the rows before it are in place, and the next four pieces are under way. -/
def ready (j : ℕ) : sProp 𝕄 :=
  iprop((∃ d, ⌜∀ y : (⟨2, ![R, w]⟩ : Shape).Idx, (y 0).val < h * j → d y = wt Z X y⌝ ∗ has c dst d)
    ∗ (∃ W, owes (c : Thread nD τ) 0 W) ∗ held Z src st sm c X j ∗ held Z src st sm c X (j + 1) ∗ held Z src st sm c X (j + 2)
    ∗ held Z src st sm c X (j + 3) ∗ idle Z src st sm c X ((j + 4) % 5) (mod5 _))

/-- The copy four pieces ahead, if there is such a piece. -/
theorem ahead_spec (j : ℕ) :
    idle Z src st sm c X ((j + 4) % 5) (mod5 _)
      ⊢ WP c (if h4 : j + 4 < n then start Z src st sm (j + 4) h4 ((j + 4) % 5) (mod5 _) else .ret ⟨⟩)
        (fun _ => held Z src st sm c X (j + 4)) := by
  unfold held
  by_cases h4 : j + 4 < n
  · rw [dif_pos h4, dif_pos h4]; exact start_spec Z src st sm c X _ _ _ _
  · rw [dif_neg h4, dif_neg h4]; exact le_wp_ret frame _ Set.univ PUnit.unit (fun _ => idle Z src st sm c X ((j + 4) % 5) (mod5 _))

theorem turn_spec (j : ℕ) (hj : j < n) :
    ready Z src dst st sm c X j ⊢ WP c (turn Z src dst hdst st sm j) (fun _ => ready Z src dst st sm c X (j + 1)) := by
  unfold ready turn
  rw [dif_pos hj]
  iintro ⟨⟨%d, %hd, Hd⟩, HW, H0, H1, H2, H3, H4⟩
  iapply (wp_then c (ahead_spec Z src st sm c X j)) $$ H4
  iintro H4
  ihave H0 := (show held Z src st sm c X j ⊢ busy Z src st sm c X j hj (j % 5) (mod5 _) from by
    unfold held; rw [dif_pos hj]) $$ H0
  iapply (wp_then c (await_spec Z src st sm c X j hj (j % 5) (mod5 _))) $$ [H0 HW]
  · isplitl [H0]; · iexact H0
    iexact HW
  iintro ⟨Hs, Hv, Hp, HW⟩
  iapply (wp_wand _ _ _ (Q := _)) $$ [Hs Hd]
  · iapply (settle_spec Z dst hdst st c X j hj (j % 5) (mod5 _) d)
    isplitl [Hs]; · iexact Hs
    iexact Hd
  iintro %_ ⟨Hs, Hd⟩
  isplitl [Hd]
  · iexists _
    isplitr; swap; · iexact Hd
    ipureintro; exact put_wt Z X j hj hd
  isplitl [HW]; · iexact HW
  isplitl [H1]; · iexact H1
  isplitl [H2]; · iexact H2
  isplitl [H3]; · iexact H3
  isplitl [H4]; · iexact H4
  iapply (idle_eq Z src st sm c X (k := j % 5) (hk := mod5 _) (by omega))
  unfold idle
  isplitl [Hs]; · iexact Hs
  isplitl [Hv]; · iexact Hv
  iexact Hp

/-- The five slots with nothing under way. -/
def allIdle : sProp 𝕄 :=
  iprop(idle Z src st sm c X 0 (by decide) ∗ idle Z src st sm c X 1 (by decide) ∗ idle Z src st sm c X 2 (by decide)
    ∗ idle Z src st sm c X 3 (by decide) ∗ idle Z src st sm c X 4 (by decide))

/-- The slots of five consecutive pieces are the five slots. -/
theorem turned (j : ℕ) :
    iprop(idle Z src st sm c X (j % 5) (mod5 _) ∗ idle Z src st sm c X ((j + 1) % 5) (mod5 _)
      ∗ idle Z src st sm c X ((j + 2) % 5) (mod5 _) ∗ idle Z src st sm c X ((j + 3) % 5) (mod5 _)
      ∗ idle Z src st sm c X ((j + 4) % 5) (mod5 _)) ⊢ allIdle Z src st sm c X := by
  unfold allIdle
  obtain hr | hr | hr | hr | hr : j % 5 = 0 ∨ j % 5 = 1 ∨ j % 5 = 2 ∨ j % 5 = 3 ∨ j % 5 = 4 := by omega
  · iintro ⟨H0, H1, H2, H3, H4⟩
    isplitl [H0]; · iapply (idle_eq Z src st sm c X (by omega)) $$ H0
    isplitl [H1]; · iapply (idle_eq Z src st sm c X (by omega)) $$ H1
    isplitl [H2]; · iapply (idle_eq Z src st sm c X (by omega)) $$ H2
    isplitl [H3]; · iapply (idle_eq Z src st sm c X (by omega)) $$ H3
    iapply (idle_eq Z src st sm c X (by omega)) $$ H4
  · iintro ⟨H1, H2, H3, H4, H0⟩
    isplitl [H0]; · iapply (idle_eq Z src st sm c X (by omega)) $$ H0
    isplitl [H1]; · iapply (idle_eq Z src st sm c X (by omega)) $$ H1
    isplitl [H2]; · iapply (idle_eq Z src st sm c X (by omega)) $$ H2
    isplitl [H3]; · iapply (idle_eq Z src st sm c X (by omega)) $$ H3
    iapply (idle_eq Z src st sm c X (by omega)) $$ H4
  · iintro ⟨H2, H3, H4, H0, H1⟩
    isplitl [H0]; · iapply (idle_eq Z src st sm c X (by omega)) $$ H0
    isplitl [H1]; · iapply (idle_eq Z src st sm c X (by omega)) $$ H1
    isplitl [H2]; · iapply (idle_eq Z src st sm c X (by omega)) $$ H2
    isplitl [H3]; · iapply (idle_eq Z src st sm c X (by omega)) $$ H3
    iapply (idle_eq Z src st sm c X (by omega)) $$ H4
  · iintro ⟨H3, H4, H0, H1, H2⟩
    isplitl [H0]; · iapply (idle_eq Z src st sm c X (by omega)) $$ H0
    isplitl [H1]; · iapply (idle_eq Z src st sm c X (by omega)) $$ H1
    isplitl [H2]; · iapply (idle_eq Z src st sm c X (by omega)) $$ H2
    isplitl [H3]; · iapply (idle_eq Z src st sm c X (by omega)) $$ H3
    iapply (idle_eq Z src st sm c X (by omega)) $$ H4
  · iintro ⟨H4, H0, H1, H2, H3⟩
    isplitl [H0]; · iapply (idle_eq Z src st sm c X (by omega)) $$ H0
    isplitl [H1]; · iapply (idle_eq Z src st sm c X (by omega)) $$ H1
    isplitl [H2]; · iapply (idle_eq Z src st sm c X (by omega)) $$ H2
    isplitl [H3]; · iapply (idle_eq Z src st sm c X (by omega)) $$ H3
    iapply (idle_eq Z src st sm c X (by omega)) $$ H4

theorem held_last {j : ℕ} (hj : n ≤ j) : held Z src st sm c X j ⊢ idle Z src st sm c X (j % 5) (mod5 _) := by
  unfold held; rw [dif_neg (by omega)]

theorem loop_four (f : ℕ → P F PUnit) (K : PUnit → P F PUnit) :
    loop f 4 >>= K = f 0 >>= fun _ => f 1 >>= fun _ => f 2 >>= fun _ => f 3 >>= K := by
  show (f 0 >>= fun _ => f 1 >>= fun _ => f 2 >>= fun _ => f 3 >>= fun _ => Prog.ret PUnit.unit) >>= K = _
  simp only [Prog.bind_assoc]
  rfl

/-- The ring leaves the weight in place and its slots free. -/
theorem slots_spec :
    iprop(allIdle Z src st sm c X ∗ any (F := F) c dst ∗ (∃ W, owes (c : Thread nD τ) 0 W))
      ⊢ WP c (ring Z src dst hdst st sm) (fun _ => iprop(allIdle Z src st sm c X ∗ has c dst (wt Z X)
        ∗ (∃ W, owes (c : Thread nD τ) 0 W))) := by
  have n4 := Z.n4
  unfold ring
  have h0 : ∀ k : ℕ, (hk : k < 4) → idle Z src st sm c X k (by omega) ⊢ WP c
      (if hj : k < 4 then start Z src st sm k (by omega) k (by omega) else .ret ⟨⟩) (fun _ => held Z src st sm c X k) := by
    intro k hk
    rw [dif_pos hk]
    unfold held
    rw [dif_pos (show k < n by omega)]
    refine BIBase.Entails.trans ?_ (wp_mono _ _ _ (fun _ => busy_eq Z src st sm c X (hk := show k < 5 by omega) (show k = k % 5 by omega)))
    exact start_spec Z src st sm c X k (by omega) k (by omega)
  iintro ⟨HI, ⟨%d, Hd⟩, HW⟩
  ihave HI := (show allIdle Z src st sm c X ⊢ _ from by unfold allIdle; exact .rfl) $$ HI
  icases HI with ⟨H0, H1, H2, H3, H4⟩
  rw [loop_four]
  iapply (wp_then c (h0 0 (by decide))) $$ H0
  iintro H0
  iapply (wp_then c (h0 1 (by decide))) $$ H1
  iintro H1
  iapply (wp_then c (h0 2 (by decide))) $$ H2
  iintro H2
  iapply (wp_then c (h0 3 (by decide))) $$ H3
  iintro H3
  iapply (wp_wand _ _ _ (Q := _)) $$ [Hd HW H0 H1 H2 H3 H4]
  · iapply (wp_steps c (f := turn Z src dst hdst st sm) (I := ready Z src dst st sm c X) n 0
      (fun j _ hj => turn_spec Z src dst hdst st sm c X j (by omega)))
    unfold ready
    isplitl [Hd]
    · iexists d
      isplitr; · ipureintro; intro y hy; omega
      iexact Hd
    isplitl [HW]; · iexact HW
    isplitl [H0]; · iexact H0
    isplitl [H1]; · iexact H1
    isplitl [H2]; · iexact H2
    isplitl [H3]; · iexact H3
    iexact H4
  rw [Nat.zero_add]
  unfold ready
  iintro %_ ⟨⟨%d, %hd, Hd⟩, HW, H0, H1, H2, H3, H4⟩
  isplitl [H0 H1 H2 H3 H4]
  · iapply (turned Z src st sm c X n)
    isplitl [H0]; · iapply (held_last Z src st sm c X (le_refl _)) $$ H0
    isplitl [H1]; · iapply (held_last Z src st sm c X (by omega)) $$ H1
    isplitl [H2]; · iapply (held_last Z src st sm c X (by omega)) $$ H2
    isplitl [H3]; · iapply (held_last Z src st sm c X (by omega)) $$ H3
    iexact H4
  isplitl [Hd]
  · iapply (has_eq c (funext fun y => hd y (by have := (y 0).isLt; have e := Z.hR; show (y 0).val < h * n; rw [e]; exact this))) $$ Hd
  iexact HW

/-- The semaphores of the ring at rest. -/
def rest : sProp 𝕄 :=
  iprop(semVal ((c : Thread nD τ), SemLoc.dma (cell sm 0 (by decide))) 0 ∗ semVal ((c : Thread nD τ), SemLoc.dma (cell sm 1 (by decide))) 0
    ∗ semVal ((c : Thread nD τ), SemLoc.dma (cell sm 2 (by decide))) 0 ∗ semVal ((c : Thread nD τ), SemLoc.dma (cell sm 3 (by decide))) 0
    ∗ semVal ((c : Thread nD τ), SemLoc.dma (cell sm 4 (by decide))) 0)

/-- The rectangle of slot `k`. -/
abbrev slotR (h w : ℕ) (k : Fin 5) : Rect ⟨3, ![5, h, w]⟩ :=
  Rect.unit (s := ⟨3, ![5, h, w]⟩) ![k.val, 0, 0] ![1, h, w] (inb3 k.isLt (by omega) (by omega))

theorem mem_slotR {k : Fin 5} {x : (⟨3, ![5, h, w]⟩ : Shape).Idx} : x ∈ (slotR h w k).set ↔ (x 0).val = k.val := by
  rw [← Rect.map_emb_univ, Finset.mem_map]
  constructor
  · rintro ⟨j, -, rfl⟩
    have : (j 0).val < 1 := (j 0).isLt
    show k.val + 1 * (j 0).val = k.val
    omega
  · intro e
    refine ⟨fun a => match a with | ⟨0, _⟩ => ⟨0, Nat.one_pos⟩ | ⟨1, _⟩ => x 1 | ⟨2, _⟩ => x 2, Finset.mem_univ _, funext fun a => Fin.ext ?_⟩
    match a with
    | ⟨0, _⟩ => show k.val + 1 * 0 = (x 0).val; omega
    | ⟨1, _⟩ => show 0 + 1 * (x 1).val = (x 1).val; omega
    | ⟨2, _⟩ => show 0 + 1 * (x 2).val = (x 2).val; omega

theorem slotR_disjoint (k k' : Fin 5) (e : k ≠ k') : Disjoint (slotR h w k).set (slotR h w k').set :=
  Finset.disjoint_left.mpr fun _ hx hx' => e (Fin.ext ((mem_slotR.mp hx).symm.trans (mem_slotR.mp hx')))

theorem slotR_cover : (Finset.univ : Finset (Fin 5)).biUnion (fun k => (slotR h w k).set) = Finset.univ :=
  Finset.eq_univ_of_forall fun x => Finset.mem_biUnion.mpr ⟨x 0, Finset.mem_univ _, mem_slotR.mpr rfl⟩

/-- A staging buffer is its five slots, -/
theorem slots_split :
    any (F := F) c st ⊢ iprop(any (F := F) c (slot Z st 0 (by decide)) ∗ any (F := F) c (slot Z st 1 (by decide))
      ∗ any (F := F) c (slot Z st 2 (by decide)) ∗ any (F := F) c (slot Z st 3 (by decide)) ∗ any (F := F) c (slot Z st 4 (by decide))) := by
  have one : ∀ (k : Fin 5) (Y : (slotR h w k).shape.Idx → Elt F .f32),
      owns (c : Thread nD τ) (st.slice (slotR h w k) (fun _ => rfl)) fullShare Y ⊢ any (F := F) c (slot Z st k.val k.isLt) := by
    intro k Y
    unfold any has owns
    iintro ⟨%f, %hf, H⟩
    iexists _, f
    isplitr; · ipureintro; rfl
    rw [View.set_reshape]
    iexact H
  iintro ⟨%X, H⟩
  have hs := owns_rects (Ix := Unit) (Name := ℕ) (U := Pipeline.UD sig nD τ) (Lvl := ℕ) (c : Thread nD τ) st fullShare (slotR h w) (fun _ _ => rfl) slotR_disjoint slotR_cover X
  rw [BI.bigSep_univ_eq_bigSepL [0, 1, 2, 3, 4] (by decide) (by decide)] at hs
  change _ ⊢ iprop(_ ∗ _ ∗ _ ∗ _ ∗ _) at hs
  rw [BI.bigSepL_singleton] at hs
  ihave H := hs $$ H
  icases H with ⟨H0, H1, H2, H3, H4⟩
  isplitl [H0]; · iapply (one 0 _) $$ H0
  isplitl [H1]; · iapply (one 1 _) $$ H1
  isplitl [H2]; · iapply (one 2 _) $$ H2
  isplitl [H3]; · iapply (one 3 _) $$ H3
  iapply (one 4 _) $$ H4

/-- and back. -/
theorem slots_join :
    iprop(any (F := F) c (slot Z st 0 (by decide)) ∗ any (F := F) c (slot Z st 1 (by decide))
      ∗ any (F := F) c (slot Z st 2 (by decide)) ∗ any (F := F) c (slot Z st 3 (by decide)) ∗ any (F := F) c (slot Z st 4 (by decide)))
      ⊢ any (F := F) c st := by
  have one : ∀ (k : Fin 5), any (F := F) c (slot Z st k.val k.isLt)
      ⊢ ownsSat (c : Thread nD τ) (st.slice (slotR h w k) (fun _ => rfl)) fullShare (fun _ => True) := by
    intro k
    unfold any has owns ownsSat
    iintro ⟨%Y, %f, %hf, H⟩
    iexists f
    isplitr; · ipureintro; trivial
    have e : ((slot Z st k.val k.isLt).view.loc (c : Thread nD τ) ↦[(slot Z st k.val k.isLt).view.set]{fullShare} f : sProp 𝕄)
        = ((st.slice (slotR h w k) (fun _ => rfl)).view.loc (c : Thread nD τ) ↦[(st.slice (slotR h w k) (fun _ => rfl)).view.set]{fullShare} f) :=
      congrArg (fun S => ((st.slice (slotR h w k) (fun _ => rfl)).view.loc (c : Thread nD τ) ↦[S]{fullShare} f : sProp 𝕄)) (View.set_reshape _ _)
    iapply (show _ ⊢ _ from e ▸ .rfl) $$ H
  have hs := ownsSat_of_rects (Ix := Unit) (Name := ℕ) (U := Pipeline.UD sig nD τ) (Lvl := ℕ) (c : Thread nD τ) st fullShare (slotR h w) (fun _ _ => rfl)
    slotR_disjoint slotR_cover (fun _ (_ : _ → Elt F .f32) => True)
  rw [BI.bigSep_univ_eq_bigSepL [0, 1, 2, 3, 4] (by decide) (by decide)] at hs
  change iprop(_ ∗ _ ∗ _ ∗ _ ∗ _) ⊢ _ at hs
  rw [BI.bigSepL_singleton] at hs
  iintro ⟨H0, H1, H2, H3, H4⟩
  ihave H := hs $$ [H0 H1 H2 H3 H4]
  · isplitl [H0]; · iapply (show any (F := F) c (slot Z st 0 _) ⊢ _ from one 0) $$ H0
    isplitl [H1]; · iapply (show any (F := F) c (slot Z st 1 _) ⊢ _ from one 1) $$ H1
    isplitl [H2]; · iapply (show any (F := F) c (slot Z st 2 _) ⊢ _ from one 2) $$ H2
    isplitl [H3]; · iapply (show any (F := F) c (slot Z st 3 _) ⊢ _ from one 3) $$ H3
    iapply (show any (F := F) c (slot Z st 4 _) ⊢ _ from one 4) $$ H4
  ihave H := (ownsSat_elim (c : Thread nD τ) st fullShare _) $$ H
  icases H with ⟨%Y, -, H⟩
  iexists Y
  iexact H

/-- Reading the array is shared among the slots. -/
theorem parts_split :
    (has c src X : sProp 𝕄) ⊢ iprop(owns (c : Thread nD τ) src (part 0) X ∗ owns (c : Thread nD τ) src (part 1) X
      ∗ owns (c : Thread nD τ) src (part 2) X ∗ owns (c : Thread nD τ) src (part 3) X ∗ owns (c : Thread nD τ) src (part 4) X) := by
  iintro H
  ihave H := (owns_halves (c : Thread nD τ) src _ X).1 $$ H
  icases H with ⟨H0, H⟩
  ihave H := (owns_halves (c : Thread nD τ) src _ X).1 $$ H
  icases H with ⟨H1, H⟩
  ihave H := (owns_halves (c : Thread nD τ) src _ X).1 $$ H
  icases H with ⟨H2, H⟩
  ihave H := (owns_halves (c : Thread nD τ) src _ X).1 $$ H
  icases H with ⟨H3, H4⟩
  isplitl [H0]; · iexact H0
  isplitl [H1]; · iexact H1
  isplitl [H2]; · iexact H2
  isplitl [H3]; · iexact H3
  iexact H4

theorem parts_join :
    iprop(owns (c : Thread nD τ) src (part 0) X ∗ owns (c : Thread nD τ) src (part 1) X
      ∗ owns (c : Thread nD τ) src (part 2) X ∗ owns (c : Thread nD τ) src (part 3) X ∗ owns (c : Thread nD τ) src (part 4) X)
      ⊢ (has c src X : sProp 𝕄) := by
  iintro ⟨H0, H1, H2, H3, H4⟩
  iapply (owns_halves (c : Thread nD τ) src _ X).2
  isplitl [H0]; · iexact H0
  iapply (owns_halves (c : Thread nD τ) src _ X).2
  isplitl [H1]; · iexact H1
  iapply (owns_halves (c : Thread nD τ) src _ X).2
  isplitl [H2]; · iexact H2
  iapply (owns_halves (c : Thread nD τ) src _ X).2
  isplitl [H3]; · iexact H3
  iexact H4

theorem allIdle_eq :
    iprop(has c src X ∗ any (F := F) c st ∗ rest (F := F) sm c) ⊣⊢ allIdle Z src st sm c X := by
  unfold allIdle idle rest
  constructor
  · iintro ⟨Hp, Hs, ⟨V0, V1, V2, V3, V4⟩⟩
    ihave Hp := (parts_split src c X) $$ Hp
    ihave Hs := (slots_split Z st c) $$ Hs
    icases Hp with ⟨P0, P1, P2, P3, P4⟩
    icases Hs with ⟨S0, S1, S2, S3, S4⟩
    isplitl [P0 S0 V0]
    · isplitl [S0]; · iexact S0
      isplitl [V0]; · iexact V0
      iexact P0
    isplitl [P1 S1 V1]
    · isplitl [S1]; · iexact S1
      isplitl [V1]; · iexact V1
      iexact P1
    isplitl [P2 S2 V2]
    · isplitl [S2]; · iexact S2
      isplitl [V2]; · iexact V2
      iexact P2
    isplitl [P3 S3 V3]
    · isplitl [S3]; · iexact S3
      isplitl [V3]; · iexact V3
      iexact P3
    isplitl [S4]; · iexact S4
    isplitl [V4]; · iexact V4
    iexact P4
  · iintro ⟨⟨S0, V0, P0⟩, ⟨S1, V1, P1⟩, ⟨S2, V2, P2⟩, ⟨S3, V3, P3⟩, ⟨S4, V4, P4⟩⟩
    isplitl [P0 P1 P2 P3 P4]
    · iapply (parts_join src c X)
      isplitl [P0]; · iexact P0
      isplitl [P1]; · iexact P1
      isplitl [P2]; · iexact P2
      isplitl [P3]; · iexact P3
      iexact P4
    isplitl [S0 S1 S2 S3 S4]
    · iapply (slots_join Z st c)
      isplitl [S0]; · iexact S0
      isplitl [S1]; · iexact S1
      isplitl [S2]; · iexact S2
      isplitl [S3]; · iexact S3
      iexact S4
    isplitl [V0]; · iexact V0
    isplitl [V1]; · iexact V1
    isplitl [V2]; · iexact V2
    isplitl [V3]; · iexact V3
    iexact V4

/-- A ring of copies: the weight in place, everything else as it was. -/
theorem ring_spec :
    iprop(has c src X ∗ any (F := F) c st ∗ rest (F := F) sm c ∗ any (F := F) c dst ∗ (∃ W, owes (c : Thread nD τ) 0 W))
      ⊢ WP c (ring Z src dst hdst st sm) (fun _ => iprop(has c src X ∗ any (F := F) c st ∗ rest (F := F) sm c
        ∗ has c dst (wt Z X) ∗ (∃ W, owes (c : Thread nD τ) 0 W))) := by
  iintro ⟨Hp, Hs, Hv, Hd, HW⟩
  iapply (wp_wand _ _ _ (Q := _)) $$ [Hp Hs Hv Hd HW]
  · iapply (slots_spec Z src dst hdst st sm c X)
    isplitl [Hp Hs Hv]
    · iapply (allIdle_eq Z src st sm c X).1
      isplitl [Hp]; · iexact Hp
      isplitl [Hs]; · iexact Hs
      iexact Hv
    isplitl [Hd]; · iexact Hd
    iexact HW
  iintro %_ ⟨HI, Hd, HW⟩
  ihave HI := (allIdle_eq Z src st sm c X).2 $$ HI
  icases HI with ⟨Hp, Hs, Hv⟩
  isplitl [Hp]; · iexact Hp
  isplitl [Hs]; · iexact Hs
  isplitl [Hv]; · iexact Hv
  isplitl [Hd]; · iexact Hd
  iexact HW

end Cert.Proof
-- ==== Proof.RecutEq.lean ====
/-
  The kernel's body is its pieces in order: the two programs agree operation by operation.
-/
module

public import proofs.«01_k».proof.Proof.Ring

@[expose] public section

set_option pp.maxSteps 60
set_option pp.deepTerms.threshold 3
set_option maxRecDepth 65536
set_option synthInstance.maxSize 4096

noncomputable section

namespace Cert.Proof

open Cert.KernelIdeal Cert.KernelIdeal.Gen
open Idealize.ShloMosaic Idealize.SL.Sem

variable {F : FTy → Type} [FloatOps F]

/-- Two programs that begin with the same operation and go on alike are the same. -/
theorem op_congr.{v} {E : Type → Type v} {α β : Type} {e e' : E β} {k k' : β → Prog E α} (h : e = e') (hk : ∀ x, k x = k' x) :
    Prog.op e k = Prog.op e' k' := by
  rw [h, funext hk]

/-- The grid point is the first, where the weights are loaded. -/
def isFirst (i : grid0.Coords) : Prop :=
  Scalar.cmpi .ne (Scalar.extui (Scalar.cmpi .eq (BitVec.ofNat 32 (i 0).val) 0#32)) 0#32 = 1#1

/-- A program that begins with a piece, and goes on as another does. -/
theorem cut {p q K : P F PUnit} {K' : PUnit → P F PUnit} (h : p = q >>= fun _ => K) (hK : K = K' ⟨⟩) : p = q >>= K' := by
  rw [h, hK]

/-- A program that begins with a loop's next step, and goes on with the rest of the loop. -/
theorem cut_step {p K : P F PUnit} {f : ℕ → P F PUnit} {j n : ℕ} {K' : PUnit → P F PUnit} (h : p = f j >>= fun _ => K)
    (hK : K = steps f (j + 1) n >>= K') : p = steps f j (n + 1) >>= K' := by
  rw [h, hK]; exact (Prog.bind_assoc _ _ _).symm

/-- A loop with no step left. -/
theorem cut_done {p : P F PUnit} {f : ℕ → P F PUnit} {j : ℕ} {K' : PUnit → P F PUnit} (h : p = K' ⟨⟩) :
    p = steps f j 0 >>= K' := h

/-- A program followed by nothing. -/
theorem cut_last {p q : P F PUnit} (h : p = q >>= fun _ => .ret ⟨⟩) : p = q := h.trans (Prog.bind_pure q)

/-- Two programs that begin with the same load and go on alike are the same. -/
theorem ld_congr {s : Shape} {e : EltTy} {m : Memref sig .tc .vmem s e} {off size : Fin s.rank → ℕ}
    {inb : ∀ a, off a + size a ≤ s.size a} {hn : 0 < (⟨s.rank, size⟩ : Shape).numel}
    {k k' : ((⟨s.rank, size⟩ : Shape).Idx → Elt F e) → P F PUnit} (h : ∀ x, k x = k' x) :
    (Prog.op (.load m (Rect.unit (s := s) off size inb).toLoadRect (View.loadsAt_vmem hn)) k : P F PUnit)
      = ld m off size inb hn >>= k' := by
  rw [funext h]; rfl

theorem sizes0 : Sizes 1 1024 3072 128 8 0 := ⟨by decide, rfl, by decide, by decide, squeezes_S1x128x3072_S128x3072, h_S128x3072, h_S1x128x3072⟩
theorem sizes1 : Sizes 1 1024 1024 256 4 0 := ⟨by decide, rfl, by decide, by decide, squeezes_S1x256x1024_S256x1024, h_S256x1024, h_S1x256x1024⟩
theorem sizes2 : Sizes 2 1024 5632 64 16 1 := ⟨by decide, rfl, by decide, by decide, squeezes_S1x64x5632_S64x5632, h_S64x5632, h_S1x64x5632⟩
theorem sizes3 : Sizes 2 2816 1024 352 8 1 := ⟨by decide, rfl, by decide, by decide, squeezes_S1x352x1024_S352x1024, h_S352x1024, h_S1x352x1024⟩

/-- The first hidden tile, all zeros. -/
def zeroH (B : Bufs) : P F PUnit := do
  let _ ← ld B.a23 ![0, 0] ![544, 1024] (inb2 (by decide) (by decide)) h_S544x1024
  stF B.a23 ![0, 0] ![544, 1024] (inb2 (by decide) (by decide)) h_S544x1024 (k0_pay1 (F := F))

/-- What the first grid point does before the rest. -/
def loads (B : Bufs) : P F PUnit := do
  zeroH B
  ring sizes0 B.a17 B.a30 B.h30 B.r0 B.m0
  ring sizes1 B.a18 B.a31 B.h31 B.r1 B.m1
  ring sizes2 B.a19 B.a32 B.h32 B.r2 B.m2
  ring sizes3 B.a20 B.a33 B.h33 B.r3 B.m3

set_option maxHeartbeats 8000000 in
/-- The body is the pieces after the weights' load, which comes before them at the first grid point only. -/
theorem body_cut (i : grid0.Coords) (B : Bufs) : ∃ K : P F PUnit, K = main i B ∧ (¬ isFirst i → body (F := F) i B = K)
    ∧ (isFirst i → body (F := F) i B = loads B >>= fun _ => K) := by
  refine ⟨?K, ?same, ?later, ?first⟩
  case later =>
    intro h
    have e : k0_part25 (F := F) i B.a1 B.h1 B.a2 B.h2 B.a3 B.h3 B.a4 B.h4 B.a5 B.h5 B.a6 B.h6 B.a7 B.h7 B.a8 B.h8 B.a9 B.h9 B.a10 B.h10
      B.a11 B.h11 B.a12 B.h12 B.a13 B.h13 B.a14 B.h14 B.a15 B.h15 B.a16 B.h16 B.a17 B.h17 B.a18 B.h18 B.a19 B.h19 B.a20 B.h20
      B.a21 B.h21 B.a22 B.h22 B.a23 B.h23 B.a24 B.h24 B.a25 B.h25 B.a26 B.h26 B.a27 B.h27 B.a28 B.h28 B.a29 B.h29 B.a30 B.h30
      B.a31 B.h31 B.a32 B.h32 B.a33 B.h33 B.r0 B.hr0 B.m0 B.r1 B.hr1 B.m1 B.r2 B.hr2 B.m2 B.r3 B.hr3 B.m3 = _ := dif_neg h
    unfold body cc0_layer_c k0_part103
    rw [e]
  case same =>
    unfold main
    apply cut
    · iterate 16 refine op_congr rfl (fun _ => ?_)
      conv_lhs => whnf
      exact rfl
    iterate 2
      refine Eq.trans ?_ (Prog.bind_assoc _ _ _).symm
      refine ld_congr (fun _ => ?_)
    iterate 4
      apply cut_step
      · iterate 17 refine op_congr rfl (fun _ => ?_)
        conv_lhs => whnf
        exact rfl
    apply cut_done
    iterate 2
      refine Eq.trans ?_ (Prog.bind_assoc _ _ _).symm
      refine ld_congr (fun _ => ?_)
    iterate 11
      apply cut_step
      · iterate 15 refine op_congr rfl (fun _ => ?_)
        conv_lhs => whnf
        exact rfl
    apply cut_done
    iterate 5
      refine Eq.trans ?_ (Prog.bind_assoc _ _ _).symm
      refine ld_congr (fun _ => ?_)
    refine Eq.trans ?_ (Prog.bind_assoc _ _ _).symm
    apply cut
    · iterate 3 refine op_congr rfl (fun _ => ?_)
      conv_lhs => whnf
      exact rfl
    refine Eq.trans ?_ (Prog.bind_assoc _ _ _).symm
    iterate 15
      apply cut_step
      · iterate 3 refine op_congr rfl (fun _ => ?_)
        conv_lhs => whnf
        exact rfl
    apply cut_done
    iterate 2
      refine Eq.trans ?_ (Prog.bind_assoc _ _ _).symm
      refine ld_congr (fun _ => ?_)
    iterate 17
      apply cut_step
      · iterate 3 refine op_congr rfl (fun _ => ?_)
        conv_lhs => whnf
        exact rfl
    apply cut_done
    apply cut_last
    iterate 5
      refine Eq.trans ?_ (Prog.bind_assoc _ _ _).symm
      refine ld_congr (fun _ => ?_)
    refine Eq.trans ?_ (Prog.bind_assoc _ _ _).symm
    iterate 17
      apply cut_step
      · iterate 3 refine op_congr rfl (fun _ => ?_)
        conv_lhs => whnf
        exact rfl
    apply cut_done
    iterate 2
      refine Eq.trans ?_ (Prog.bind_assoc _ _ _).symm
      refine ld_congr (fun _ => ?_)
    iterate 17
      apply cut_step
      · iterate 3 refine op_congr rfl (fun _ => ?_)
        conv_lhs => whnf
        exact rfl
    rfl
  case first =>
    intro h
    have e : k0_part25 (F := F) i B.a1 B.h1 B.a2 B.h2 B.a3 B.h3 B.a4 B.h4 B.a5 B.h5 B.a6 B.h6 B.a7 B.h7 B.a8 B.h8 B.a9 B.h9 B.a10 B.h10
      B.a11 B.h11 B.a12 B.h12 B.a13 B.h13 B.a14 B.h14 B.a15 B.h15 B.a16 B.h16 B.a17 B.h17 B.a18 B.h18 B.a19 B.h19 B.a20 B.h20
      B.a21 B.h21 B.a22 B.h22 B.a23 B.h23 B.a24 B.h24 B.a25 B.h25 B.a26 B.h26 B.a27 B.h27 B.a28 B.h28 B.a29 B.h29 B.a30 B.h30
      B.a31 B.h31 B.a32 B.h32 B.a33 B.h33 B.r0 B.hr0 B.m0 B.r1 B.hr1 B.m1 B.r2 B.hr2 B.m2 B.r3 B.hr3 B.m3 = _ := dif_pos h
    unfold body cc0_layer_c k0_part103
    rw [e]
    clear e h
    unfold loads ring
    refine Eq.trans ?_ (Prog.bind_assoc _ _ _).symm
    apply cut
    · iterate 2 refine op_congr rfl (fun _ => ?_)
      conv_lhs => whnf
      exact rfl
    refine Eq.trans ?_ (Prog.bind_assoc _ _ _).symm
    refine Eq.trans ?_ (Prog.bind_assoc _ _ _).symm
    iterate 4
      apply cut_step
      · refine op_congr rfl (fun _ => ?_)
        conv_lhs => whnf
        exact rfl
    apply cut_done
    iterate 4
      apply cut_step
      · iterate 5 refine op_congr rfl (fun _ => ?_)
        conv_lhs => whnf
        exact rfl
    iterate 4
      apply cut_step
      · iterate 4 refine op_congr rfl (fun _ => ?_)
        conv_lhs => whnf
        exact rfl
    apply cut_done
    refine Eq.trans ?_ (Prog.bind_assoc _ _ _).symm
    refine Eq.trans ?_ (Prog.bind_assoc _ _ _).symm
    iterate 4
      apply cut_step
      · refine op_congr rfl (fun _ => ?_)
        conv_lhs => whnf
        exact rfl
    apply cut_done
    iterate 4
      apply cut_step
      · iterate 4 refine op_congr rfl (fun _ => ?_)
        conv_lhs => whnf
        exact rfl
    apply cut_done
    refine Eq.trans ?_ (Prog.bind_assoc _ _ _).symm
    refine Eq.trans ?_ (Prog.bind_assoc _ _ _).symm
    iterate 4
      apply cut_step
      · refine op_congr rfl (fun _ => ?_)
        conv_lhs => whnf
        exact rfl
    apply cut_done
    iterate 12
      apply cut_step
      · iterate 5 refine op_congr rfl (fun _ => ?_)
        conv_lhs => whnf
        exact rfl
    iterate 4
      apply cut_step
      · iterate 4 refine op_congr rfl (fun _ => ?_)
        conv_lhs => whnf
        exact rfl
    apply cut_done
    refine Eq.trans ?_ (Prog.bind_assoc _ _ _).symm
    iterate 4
      apply cut_step
      · refine op_congr rfl (fun _ => ?_)
        conv_lhs => whnf
        exact rfl
    apply cut_done
    iterate 4
      apply cut_step
      · iterate 5 refine op_congr rfl (fun _ => ?_)
        conv_lhs => whnf
        exact rfl
    iterate 4
      apply cut_step
      · iterate 4 refine op_congr rfl (fun _ => ?_)
        conv_lhs => whnf
        exact rfl
    apply cut_done
    rfl

/-- Past the first grid point the body is the pieces after the weights' load. -/
theorem body_later (i : grid0.Coords) (B : Bufs) (h : ¬ isFirst i) : body (F := F) i B = main i B := by
  obtain ⟨K, hK, hl, -⟩ := body_cut (F := F) i B
  rw [hl h, hK]

/-- At the first grid point it is the loads and then the same pieces. -/
theorem body_first (i : grid0.Coords) (B : Bufs) (h : isFirst i) : body (F := F) i B = loads B >>= fun _ => main i B := by
  obtain ⟨K, hK, -, hf⟩ := body_cut (F := F) i B
  rw [hf h, hK]

end Cert.Proof
-- ==== Proof.Rows.lean ====
/-
  What the two row-by-row parts of the body leave behind: the feed forward's output tile and the mixer's carried rows,
  both as functions of the buffers read.
-/
module

public import proofs.«01_k».proof.Proof.Body

@[expose] public section

set_option maxRecDepth 16384
set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

variable {F : FTy → Type} [FloatOps F]

local notation "𝕄" => MT nD τ sig Unit (Elt F) ℕ (Pipeline.UD sig nD τ) ℕ

variable (c : Dev nD) (B : Bufs)

/-- A matrix given by its chunks of 16 rows. -/
def byRows {n m k : ℕ} {α : Type} (hn : n ≤ 16 * k) (w : (j : ℕ) → j < k → (⟨2, ![16, m]⟩ : Shape).Idx → α) :
    (⟨2, ![n, m]⟩ : Shape).Idx → α := fun y =>
  w ((y 0).val / 16) (Nat.div_lt_of_lt_mul (lt_of_lt_of_le (y 0).isLt hn)) (fun a => match a with
    | ⟨0, _⟩ => ⟨(y 0).val % 16, Nat.mod_lt _ (by decide)⟩
    | ⟨1, _⟩ => y 1)

theorem put_byRows {n m k : ℕ} {α : Type} {hn : n ≤ 16 * k} {w : (j : ℕ) → j < k → (⟨2, ![16, m]⟩ : Shape).Idx → α}
    {d : (⟨2, ![n, m]⟩ : Shape).Idx → α} (j : ℕ) (hj : j < k)
    (h : ∀ y : (⟨2, ![n, m]⟩ : Shape).Idx, (y 0).val < 16 * j → d y = byRows hn w y) :
    ∀ y : (⟨2, ![n, m]⟩ : Shape).Idx, (y 0).val < 16 * (j + 1) → put d ![16 * j, 0] ![16, m] (w j hj) y = byRows hn w y := by
  intro y hy
  have h1 : (y 1).val < m := (y 1).isLt
  unfold put
  split
  · rename_i a
    have a1 : 16 * j ≤ (y 0).val := (a 0).1
    obtain rfl : j = (y 0).val / 16 := by omega
    refine congrArg (w _ hj) (funext fun b => Fin.ext ?_)
    match b with
    | ⟨0, _⟩ => show (y 0).val - 16 * ((y 0).val / 16) = (y 0).val % 16; omega
    | ⟨1, _⟩ => exact Nat.sub_zero _
  · rename_i a
    refine h y ?_
    by_contra hc
    refine a fun b => ?_
    match b with
    | ⟨0, _⟩ => exact ⟨by show 16 * j ≤ (y 0).val; omega, by show (y 0).val < 16 * j + 16; omega⟩
    | ⟨1, _⟩ => exact ⟨Nat.zero_le _, by show (y 1).val < 0 + m; omega⟩

/-- One plane given by its chunks of 16 rows. -/
def byPlane {n m k : ℕ} {α : Type} (hn : n ≤ 16 * k) (w : (j : ℕ) → j < k → (⟨3, ![1, 16, m]⟩ : Shape).Idx → α) :
    (⟨3, ![1, n, m]⟩ : Shape).Idx → α := fun y =>
  w ((y 1).val / 16) (Nat.div_lt_of_lt_mul (lt_of_lt_of_le (y 1).isLt hn)) (fun a => match a with
    | ⟨0, _⟩ => y 0
    | ⟨1, _⟩ => ⟨(y 1).val % 16, Nat.mod_lt _ (by decide)⟩
    | ⟨2, _⟩ => y 2)

theorem put_byPlane {n m k : ℕ} {α : Type} {hn : n ≤ 16 * k} {w : (j : ℕ) → j < k → (⟨3, ![1, 16, m]⟩ : Shape).Idx → α}
    {d : (⟨3, ![1, n, m]⟩ : Shape).Idx → α} (j : ℕ) (hj : j < k)
    (h : ∀ y : (⟨3, ![1, n, m]⟩ : Shape).Idx, (y 1).val < 16 * j → d y = byPlane hn w y) :
    ∀ y : (⟨3, ![1, n, m]⟩ : Shape).Idx, (y 1).val < 16 * (j + 1) →
      put d ![0, 16 * j, 0] ![1, 16, m] (w j hj) y = byPlane hn w y := by
  intro y hy
  have h0 : (y 0).val < 1 := (y 0).isLt
  have h1 : (y 2).val < m := (y 2).isLt
  unfold put
  split
  · rename_i a
    have a1 : 16 * j ≤ (y 1).val := (a 1).1
    obtain rfl : j = (y 1).val / 16 := by omega
    refine congrArg (w _ hj) (funext fun b => Fin.ext ?_)
    match b with
    | ⟨0, _⟩ => exact Nat.sub_zero _
    | ⟨1, _⟩ => show (y 1).val - 16 * ((y 1).val / 16) = (y 1).val % 16; omega
    | ⟨2, _⟩ => exact Nat.sub_zero _
  · rename_i a
    refine h y ?_
    by_contra hc
    refine a fun b => ?_
    match b with
    | ⟨0, _⟩ => exact ⟨Nat.zero_le _, by show (y 0).val < 0 + 1; omega⟩
    | ⟨1, _⟩ => exact ⟨by show 16 * j ≤ (y 1).val; omega, by show (y 1).val < 16 * j + 16; omega⟩
    | ⟨2, _⟩ => exact ⟨Nat.zero_le _, by show (y 2).val < 0 + m; omega⟩

/-! ### The feed forward's output -/

/-- Layer 1 of a bias or of a norm's scale or shift. -/
abbrev row1 (x : Vec F S2x1024 .f32) : Vec F S1x1024 .f32 := window x ![1, 0] ![1, 1024] (inb2 (by decide) (by decide))

/-- The second product's first half. -/
abbrev pF1 (A : Vec F S528x2816 .bf16) (W : Vec F S2816x1024 .bf16) : Vec F S256x1024 .f32 :=
  matmul dot_S256x2816_S2816x1024_S256x1024_1_0_0_1_n_n none
    (window A ![0, 0] ![256, 2816] (inb2 (by decide) (by decide)) : Vec F S256x2816 .bf16) W (constant S256x1024 .f32 0x00000000#32)
/-- The second product's second half. -/
abbrev pF2 (A : Vec F S528x2816 .bf16) (W : Vec F S2816x1024 .bf16) : Vec F S272x1024 .f32 :=
  matmul dot_S272x2816_S2816x1024_S272x1024_1_0_0_1_n_n none
    (window A ![256, 0] ![272, 2816] (inb2 (by decide) (by decide)) : Vec F S272x2816 .bf16) W (constant S272x1024 .f32 0x00000000#32)

/-- Rows `16 k …` of the output tile. -/
def oV (H : Vec F S544x1024 .f32) (A : Vec F S528x2816 .bf16) (W : Vec F S2816x1024 .bf16) (x14 x15 x16 : Vec F S2x1024 .f32)
    (k : ℕ) (hk : k < 32) : Vec F S1x16x1024 .f32 :=
  shapeCast S1x16x1024 (lnN (row1 x15) (row1 x16)
    (lnZ (row1 x14) (window H ![24 + 16 * k, 0] ![16, 1024] (inb2 (by omega) (by omega)))
      (if h : k < 15 then rows (pF1 A W) (16 + 16 * k) (slices16 (by omega))
        else rows (pF2 A W) (16 * (k - 15)) (slices16 (by omega))))) shapeCasts_S16x1024_S1x16x1024

/-- The output tile. -/
def oA (H : Vec F S544x1024 .f32) (A : Vec F S528x2816 .bf16) (W : Vec F S2816x1024 .bf16) (x14 x15 x16 : Vec F S2x1024 .f32) :
    Vec F S1x512x1024 .f32 := byPlane (m := 1024) (k := 32) (by decide) (oV H A W x14 x15 x16)

theorem ffnRow_spec (H : Vec F S544x1024 .f32) (A : Vec F S528x2816 .bf16) (W : Vec F S2816x1024 .bf16)
    (x14 x15 x16 : Vec F S2x1024 .f32) (d : Vec F S1x512x1024 .f32) {n : ℕ} (p : FVec F ⟨2, ![n, 1024]⟩ .f32)
    (k o : ℕ) (hk : k < 32) (ho : o + 16 ≤ n)
    (hp : rows p o (slices16 ho) = if h : k < 15 then rows (pF1 A W) (16 + 16 * k) (slices16 (by omega))
        else rows (pF2 A W) (16 * (k - 15)) (slices16 (by omega))) :
    iprop(has c B.a24 H ∗ has c B.a21 d)
      ⊢ WP c (ffnRow B (row1 x14) (row1 x15) (row1 x16) p k o hk ho)
        (fun _ => iprop(has c B.a24 H ∗ has c B.a21 (put d ![0, 16 * k, 0] ![1, 16, 1024] (oV H A W x14 x15 x16 k hk)))) := by
  iintro ⟨H24, H21⟩
  unfold ffnRow
  iapply (wp_ld c) $$ H24
  iintro H24
  iapply (wp_ld c) $$ H21
  iintro H21
  rw [hp]
  iapply (wp_stF_last c) $$ H21
  iintro H21
  isplitl [H24]; · iexact H24
  iexact H21

theorem ffnBack_spec (H : Vec F S544x1024 .f32) (A : Vec F S528x2816 .bf16) (W : Vec F S2816x1024 .bf16)
    (x14 x15 x16 : Vec F S2x1024 .f32) :
    iprop(has c B.a24 H ∗ has c B.a26 A ∗ has c B.a33 W ∗ has c B.a14 x14 ∗ has c B.a15 x15 ∗ has c B.a16 x16
        ∗ any (F := F) c B.a27 ∗ any (F := F) c B.a21)
      ⊢ WP c (ffnBack B)
        (fun _ => iprop(has c B.a24 H ∗ has c B.a26 A ∗ has c B.a33 W ∗ has c B.a14 x14 ∗ has c B.a15 x15 ∗ has c B.a16 x16
          ∗ any (F := F) c B.a27 ∗ has c B.a21 (oA H A W x14 x15 x16))) := by
  iintro ⟨H24, H26, H33, H14, H15, H16, ⟨%d27, H27⟩, ⟨%d21, H21⟩⟩
  unfold ffnBack
  have e33 : window W ![0, 0] ![2816, 1024] (inb2 (by decide) (by decide)) = W := window_all (s := S2816x1024) W _
  iapply (wp_ld c) $$ H14
  iintro H14
  iapply (wp_ld c) $$ H15
  iintro H15
  iapply (wp_ld c) $$ H16
  iintro H16
  iapply (wp_ld c) $$ H26
  iintro H26
  iapply (wp_ld c) $$ H33
  iintro H33
  rw [e33]
  iapply (wp_then c (A := iprop(has c B.a24 H ∗ has c B.a27 d27)) (B := iprop(has c B.a24 H ∗ any (F := F) c B.a27)) (by
    iintro ⟨H24, H27⟩
    unfold ffnRow0
    iapply (wp_ld c) $$ H24
    iintro H24
    iapply (wp_ld c) $$ H27
    iintro H27
    iapply (wp_stF_last c) $$ H27
    iintro H27
    isplitl [H24]; · iexact H24
    iexists _; iexact H27)) $$ [H24 H27]
  · isplitl [H24]; · iexact H24
    iexact H27
  iintro ⟨H24, H27⟩
  have hl := wp_steps c (f := fun k => if h : k < 15 then
      ffnRow B (row1 x14) (row1 x15) (row1 x16) (pF1 A W) k (16 + 16 * k) (by omega) (by omega) else .ret ⟨⟩)
    (I := fun j => iprop(has c B.a24 H
      ∗ (∃ d : Vec F S1x512x1024 .f32, ⌜∀ y, (y 1).val < 16 * j → d y = oA H A W x14 x15 x16 y⌝ ∗ has c B.a21 d))) 15 0 (by
    intro j _ hj
    have hj : j < 15 := by omega
    simp only [dif_pos hj]
    iintro ⟨H24, ⟨%d, %hd, H21⟩⟩
    iapply (wp_wand _ _ _ (Q := _)) $$ [H24 H21]
    · iapply (ffnRow_spec c B H A W x14 x15 x16 d (pF1 A W) j (16 + 16 * j) _ _ (by rw [dif_pos hj]))
      isplitl [H24]; · iexact H24
      iexact H21
    iintro %_ ⟨H24, H21⟩
    isplitl [H24]; · iexact H24
    iexists _
    isplitr
    · ipureintro
      exact put_byPlane j (by omega) hd
    · iexact H21)
  iapply (wp_then c hl) $$ [H24 H21]
  · isplitl [H24]; · iexact H24
    iexists d21
    isplitr
    · ipureintro; intro y h; omega
    · iexact H21
  iintro ⟨H24, H21⟩
  iapply (wp_ld c) $$ H26
  iintro H26
  iapply (wp_ld c) $$ H33
  iintro H33
  rw [e33]
  have hl := wp_steps c (f := fun k => if h : k < 17 then
      ffnRow B (row1 x14) (row1 x15) (row1 x16) (pF2 A W) (15 + k) (16 * k) (by omega) (by omega) else .ret ⟨⟩)
    (I := fun j => iprop(has c B.a24 H
      ∗ (∃ d : Vec F S1x512x1024 .f32, ⌜∀ y, (y 1).val < 16 * (15 + j) → d y = oA H A W x14 x15 x16 y⌝ ∗ has c B.a21 d))) 17 0 (by
    intro j _ hj
    have hj : j < 17 := by omega
    simp only [dif_pos hj]
    iintro ⟨H24, ⟨%d, %hd, H21⟩⟩
    iapply (wp_wand _ _ _ (Q := _)) $$ [H24 H21]
    · iapply (ffnRow_spec c B H A W x14 x15 x16 d (pF2 A W) (15 + j) (16 * j) _ _ (by
        rw [dif_neg (by omega)]; congr 2; omega))
      isplitl [H24]; · iexact H24
      iexact H21
    iintro %_ ⟨H24, H21⟩
    isplitl [H24]; · iexact H24
    iexists _
    isplitr
    · ipureintro
      exact put_byPlane (15 + j) (by omega) hd
    · iexact H21)
  iapply (wp_wand _ _ _ (Q := _)) $$ [H24 H21]
  · iapply hl
    isplitl [H24]; · iexact H24
    iexact H21
  iintro %_ ⟨H24, ⟨%d, %hd, H21⟩⟩
  isplitl [H24]; · iexact H24
  isplitl [H26]; · iexact H26
  isplitl [H33]; · iexact H33
  isplitl [H14]; · iexact H14
  isplitl [H15]; · iexact H15
  isplitl [H16]; · iexact H16
  isplitl [H27]; · iexact H27
  iapply (has_eq c ?_) $$ H21
  funext y
  exact hd y (y 1).isLt

/-! ### The mixer's rows -/

/-- The mixer's second product, rows `o … o + 271`. -/
abbrev pM (y : Vec F S544x1024 .bf16) (W : Vec F S1024x1024 .bf16) (o : ℕ) (ho : o + 272 ≤ 544) : Vec F S272x1024 .f32 :=
  matmul dot_S272x1024_S1024x1024_S272x1024_1_0_0_1_n_n none
    (window y ![o, 0] ![272, 1024] (inb2 ho (by decide)) : Vec F S272x1024 .bf16) W (constant S272x1024 .f32 0x00000000#32)

/-- Rows `16 k …` of the mixer's result. -/
def hV (x : Vec F S560x1024 .f32) (y : Vec F S544x1024 .bf16) (W : Vec F S1024x1024 .bf16) (x8 : Vec F S1x1024 .f32)
    (x9 x10 : Vec F S2x1024 .f32) (k : ℕ) (hk : k < 34) : Vec F S16x1024 .f32 :=
  lnN (row1 x9) (row1 x10)
    (lnZ x8 (window x ![8 + 16 * k, 0] ![16, 1024] (inb2 (by omega) (by omega)))
      (if h : k < 17 then rows (pM y W 0 (by decide)) (16 * k) (slices16 (by omega))
        else rows (pM y W 272 (by decide)) (16 * (k - 17)) (slices16 (by omega))))

/-- The mixer's result. -/
def hA (x : Vec F S560x1024 .f32) (y : Vec F S544x1024 .bf16) (W : Vec F S1024x1024 .bf16) (x8 : Vec F S1x1024 .f32)
    (x9 x10 : Vec F S2x1024 .f32) : Vec F S544x1024 .f32 := byRows (m := 1024) (k := 34) (by decide) (hV x y W x8 x9 x10)

theorem mixRow_spec (x : Vec F S560x1024 .f32) (y : Vec F S544x1024 .bf16) (W : Vec F S1024x1024 .bf16) (x8 : Vec F S1x1024 .f32)
    (x9 x10 : Vec F S2x1024 .f32) (d : Vec F S544x1024 .f32) (p : FVec F S272x1024 .f32)
    (k o : ℕ) (hk : k < 34) (ho : o + 16 ≤ 272)
    (hp : rows p o (slices16 ho) = if h : k < 17 then rows (pM y W 0 (by decide)) (16 * k) (slices16 (by omega))
        else rows (pM y W 272 (by decide)) (16 * (k - 17)) (slices16 (by omega))) :
    iprop(has c B.a22 x ∗ has c B.a23 d)
      ⊢ WP c (mixRow B x8 (row1 x9) (row1 x10) p k o hk ho)
        (fun _ => iprop(has c B.a22 x ∗ has c B.a23 (put d ![16 * k, 0] ![16, 1024] (hV x y W x8 x9 x10 k hk)))) := by
  iintro ⟨H22, H23⟩
  unfold mixRow
  iapply (wp_ld c) $$ H22
  iintro H22
  iapply (wp_ld c) $$ H23
  iintro H23
  rw [hp, shapeCast_self]
  iapply (wp_stF_last c) $$ H23
  iintro H23
  isplitl [H22]; · iexact H22
  iexact H23

theorem mixBack_spec (x : Vec F S560x1024 .f32) (y : Vec F S544x1024 .bf16) (W : Vec F S1024x1024 .bf16) (x8 : Vec F S1x1024 .f32)
    (x9 x10 : Vec F S2x1024 .f32) :
    iprop(has c B.a22 x ∗ has c B.a29 y ∗ has c B.a31 W ∗ has c B.a8 x8 ∗ has c B.a9 x9 ∗ has c B.a10 x10 ∗ any (F := F) c B.a23)
      ⊢ WP c (mixBack B)
        (fun _ => iprop(has c B.a22 x ∗ has c B.a29 y ∗ has c B.a31 W ∗ has c B.a8 x8 ∗ has c B.a9 x9 ∗ has c B.a10 x10
          ∗ has c B.a23 (hA x y W x8 x9 x10))) := by
  iintro ⟨H22, H29, H31, H8, H9, H10, ⟨%d23, H23⟩⟩
  unfold mixBack
  have e31 : window W ![0, 0] ![1024, 1024] (inb2 (by decide) (by decide)) = W := window_all (s := S1024x1024) W _
  have e8 : window x8 ![0, 0] ![1, 1024] (inb2 (by decide) (by decide)) = x8 := window_all (s := S1x1024) x8 _
  iapply (wp_ld c) $$ H8
  iintro H8
  rw [e8]
  iapply (wp_ld c) $$ H9
  iintro H9
  iapply (wp_ld c) $$ H10
  iintro H10
  iapply (wp_ld c) $$ H29
  iintro H29
  iapply (wp_ld c) $$ H31
  iintro H31
  rw [e31]
  have hl := wp_steps c (f := fun k => if h : k < 17 then
      mixRow B x8 (row1 x9) (row1 x10) (pM y W 0 (by decide)) k (16 * k) (by omega) (by omega) else .ret ⟨⟩)
    (I := fun j => iprop(has c B.a22 x
      ∗ (∃ d : Vec F S544x1024 .f32, ⌜∀ z, (z 0).val < 16 * j → d z = hA x y W x8 x9 x10 z⌝ ∗ has c B.a23 d))) 17 0 (by
    intro j _ hj
    have hj : j < 17 := by omega
    simp only [dif_pos hj]
    iintro ⟨H22, ⟨%d, %hd, H23⟩⟩
    iapply (wp_wand _ _ _ (Q := _)) $$ [H22 H23]
    · iapply (mixRow_spec c B x y W x8 x9 x10 d (pM y W 0 _) j (16 * j) _ _ (by rw [dif_pos hj]))
      isplitl [H22]; · iexact H22
      iexact H23
    iintro %_ ⟨H22, H23⟩
    isplitl [H22]; · iexact H22
    iexists _
    isplitr
    · ipureintro
      exact put_byRows j (by omega) hd
    · iexact H23)
  iapply (wp_then c hl) $$ [H22 H23]
  · isplitl [H22]; · iexact H22
    iexists d23
    isplitr
    · ipureintro; intro y h; omega
    · iexact H23
  iintro ⟨H22, H23⟩
  iapply (wp_ld c) $$ H29
  iintro H29
  iapply (wp_ld c) $$ H31
  iintro H31
  rw [e31]
  have hl := wp_steps c (f := fun k => if h : k < 17 then
      mixRow B x8 (row1 x9) (row1 x10) (pM y W 272 (by decide)) (17 + k) (16 * k) (by omega) (by omega) else .ret ⟨⟩)
    (I := fun j => iprop(has c B.a22 x
      ∗ (∃ d : Vec F S544x1024 .f32, ⌜∀ z, (z 0).val < 16 * (17 + j) → d z = hA x y W x8 x9 x10 z⌝ ∗ has c B.a23 d))) 17 0 (by
    intro j _ hj
    have hj : j < 17 := by omega
    simp only [dif_pos hj]
    iintro ⟨H22, ⟨%d, %hd, H23⟩⟩
    iapply (wp_wand _ _ _ (Q := _)) $$ [H22 H23]
    · iapply (mixRow_spec c B x y W x8 x9 x10 d (pM y W 272 _) (17 + j) (16 * j) _ _ (by
        rw [dif_neg (by omega)]; congr 2; omega))
      isplitl [H22]; · iexact H22
      iexact H23
    iintro %_ ⟨H22, H23⟩
    isplitl [H22]; · iexact H22
    iexists _
    isplitr
    · ipureintro
      exact put_byRows (17 + j) (by omega) hd
    · iexact H23)
  iapply (wp_wand _ _ _ (Q := _)) $$ [H22 H23]
  · iapply hl
    isplitl [H22]; · iexact H22
    iexact H23
  iintro %_ ⟨H22, ⟨%d, %hd, H23⟩⟩
  isplitl [H22]; · iexact H22
  isplitl [H29]; · iexact H29
  isplitl [H31]; · iexact H31
  isplitl [H8]; · iexact H8
  isplitl [H9]; · iexact H9
  isplitl [H10]; · iexact H10
  iapply (has_eq c ?_) $$ H23
  funext z
  exact hd z (z 0).isLt

end Cert.Proof
-- ==== Proof.Main.lean ====
/-
  What the body leaves behind once the weights are in place: the feed forward of the carried rows in the output tile, and
  the mixer's result of the next tile carried on.
-/
module

public import proofs.«01_k».proof.Proof.Rows

@[expose] public section

set_option maxRecDepth 16384
set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

variable {F : FTy → Type} [FloatOps F]

local notation "𝕄" => MT nD τ sig Unit (Elt F) ℕ (Pipeline.UD sig nD τ) ℕ

variable (c : Dev nD) (B : Bufs)

/-- The contents of the sixteen input blocks at a grid point. -/
structure Ins (F : FTy → Type) where
  x1 : Vec F S1x64x1024 .f32
  x2 : Vec F S1x512x1024 .f32
  x3 : Vec F S1x32x1024 .f32
  x4 : Vec F S1x16x1024 .f32
  x5 : Vec F S1x3072 .f32
  x6 : Vec F S1x3x1024 .f32
  x7 : Vec F S1x1024 .f32
  x8 : Vec F S1x1024 .f32
  x9 : Vec F S2x1024 .f32
  x10 : Vec F S2x1024 .f32
  x11 : Vec F S2x5632 .f32
  x12 : Vec F S2x3x2816 .f32
  x13 : Vec F S2x2816 .f32
  x14 : Vec F S2x1024 .f32
  x15 : Vec F S2x1024 .f32
  x16 : Vec F S2x1024 .f32

/-- The four weights as the kernel holds them. -/
structure Wts (F : FTy → Type) where
  w30 : Vec F S1024x3072 .bf16
  w31 : Vec F S1024x1024 .bf16
  w32 : Vec F S1024x5632 .bf16
  w33 : Vec F S2816x1024 .bf16

/-- The input blocks hold `X`. -/
def insAt (X : Ins F) : sProp 𝕄 :=
  iprop(has c B.a1 X.x1 ∗ has c B.a2 X.x2 ∗ has c B.a3 X.x3 ∗ has c B.a4 X.x4 ∗ has c B.a5 X.x5 ∗ has c B.a6 X.x6
    ∗ has c B.a7 X.x7 ∗ has c B.a8 X.x8 ∗ has c B.a9 X.x9 ∗ has c B.a10 X.x10 ∗ has c B.a11 X.x11 ∗ has c B.a12 X.x12
    ∗ has c B.a13 X.x13 ∗ has c B.a14 X.x14 ∗ has c B.a15 X.x15 ∗ has c B.a16 X.x16)

/-- The weight buffers hold `W`. -/
def wtsAt (W : Wts F) : sProp 𝕄 :=
  iprop(has c B.a30 W.w30 ∗ has c B.a31 W.w31 ∗ has c B.a32 W.w32 ∗ has c B.a33 W.w33)

/-- The buffers whose contents no later grid point reads. -/
def tmp : sProp 𝕄 :=
  iprop(any (F := F) c B.a22 ∗ any (F := F) c B.a24 ∗ any (F := F) c B.a25 ∗ any (F := F) c B.a26 ∗ any (F := F) c B.a27
    ∗ any (F := F) c B.a28 ∗ any (F := F) c B.a29)

/-- The rows the mixer carries on to the next grid point. -/
def mixOf (i : grid0.Coords) (X : Ins F) (W : Wts F) : Vec F S544x1024 .f32 :=
  hA (xe i X.x1 X.x2 X.x3 X.x4) (yA i (xe i X.x1 X.x2 X.x3 X.x4) W.w30 X.x5 X.x6 X.x7) W.w31 X.x8 X.x9 X.x10

/-- The output tile from the carried rows. -/
def outOf (i : grid0.Coords) (X : Ins F) (W : Wts F) (H : Vec F S544x1024 .f32) : Vec F S1x512x1024 .f32 :=
  oA H (aA i H W.w32 X.x11 X.x12 X.x13) W.w33 X.x14 X.x15 X.x16

theorem main_spec (i : grid0.Coords) (X : Ins F) (W : Wts F) (H : Vec F S544x1024 .f32) :
    iprop(insAt c B X ∗ wtsAt c B W ∗ tmp (F := F) c B ∗ has c B.a23 H ∗ any (F := F) c B.a21)
      ⊢ WP c (main i B) (fun _ => iprop(insAt c B X ∗ wtsAt c B W ∗ tmp (F := F) c B ∗ has c B.a23 (mixOf i X W)
          ∗ has c B.a21 (outOf i X W H))) := by
  unfold insAt wtsAt tmp
  iintro ⟨⟨H1, H2, H3, H4, H5, H6, H7, H8, H9, H10, H11, H12, H13, H14, H15, H16⟩, ⟨H30, H31, H32, H33⟩,
    ⟨H22, H24, H25, H26, H27, H28, H29⟩, H23, H21⟩
  unfold main
  iapply (wp_then c (assemble_spec c B i X.x1 X.x2 X.x3 X.x4 H)) $$ [H1 H2 H3 H4 H22 H23 H24]
  · isplitl [H1]; · iexact H1
    isplitl [H2]; · iexact H2
    isplitl [H3]; · iexact H3
    isplitl [H4]; · iexact H4
    isplitl [H22]; · iexact H22
    isplitl [H23]; · iexact H23
    iexact H24
  iintro ⟨H1, H2, H3, H4, H22, H23, H24⟩
  iapply (wp_then c (mixChunks_spec c B i (xe i X.x1 X.x2 X.x3 X.x4) W.w30 X.x5 X.x6 X.x7)) $$ [H22 H30 H5 H6 H7 H28 H29]
  · isplitl [H22]; · iexact H22
    isplitl [H30]; · iexact H30
    isplitl [H5]; · iexact H5
    isplitl [H6]; · iexact H6
    isplitl [H7]; · iexact H7
    isplitl [H28]; · iexact H28
    iexact H29
  iintro ⟨H22, H30, H5, H6, H7, H28, H29⟩
  iapply (wp_then c (ffnChunks_spec c B i H W.w32 X.x11 X.x12 X.x13)) $$ [H24 H32 H11 H12 H13 H25 H26]
  · isplitl [H24]; · iexact H24
    isplitl [H32]; · iexact H32
    isplitl [H11]; · iexact H11
    isplitl [H12]; · iexact H12
    isplitl [H13]; · iexact H13
    isplitl [H25]; · iexact H25
    iexact H26
  iintro ⟨H24, H32, H11, H12, H13, H25, H26⟩
  iapply (wp_then c (ffnBack_spec c B H (aA i H W.w32 X.x11 X.x12 X.x13) W.w33 X.x14 X.x15 X.x16)) $$ [H24 H26 H33 H14 H15 H16 H27 H21]
  · isplitl [H24]; · iexact H24
    isplitl [H26]; · iexact H26
    isplitl [H33]; · iexact H33
    isplitl [H14]; · iexact H14
    isplitl [H15]; · iexact H15
    isplitl [H16]; · iexact H16
    isplitl [H27]; · iexact H27
    iexact H21
  iintro ⟨H24, H26, H33, H14, H15, H16, H27, H21⟩
  iapply (wp_wand _ _ _ (Q := _)) $$ [H22 H29 H31 H8 H9 H10 H23]
  · iapply (mixBack_spec c B (xe i X.x1 X.x2 X.x3 X.x4) (yA i (xe i X.x1 X.x2 X.x3 X.x4) W.w30 X.x5 X.x6 X.x7) W.w31 X.x8 X.x9 X.x10)
    isplitl [H22]; · iexact H22
    isplitl [H29]; · iexact H29
    isplitl [H31]; · iexact H31
    isplitl [H8]; · iexact H8
    isplitl [H9]; · iexact H9
    isplitl [H10]; · iexact H10
    iexists _; iexact H23
  iintro %_ ⟨H22, H29, H31, H8, H9, H10, H23⟩
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H30 H31 H32 H33]
  · isplitl [H30]; · iexact H30
    isplitl [H31]; · iexact H31
    isplitl [H32]; · iexact H32
    iexact H33
  isplitl [H22 H24 H25 H26 H27 H28 H29]
  · isplitl [H22]; · iexists _; iexact H22
    isplitl [H24]; · iexists _; iexact H24
    isplitl [H25]; · iexact H25
    isplitl [H26]; · iexists _; iexact H26
    isplitl [H27]; · iexact H27
    isplitl [H28]; · iexact H28
    iexists _; iexact H29
  isplitl [H23]; · iexact H23
  iexact H21

end Cert.Proof
-- ==== Proof.Points.lean ====
/-
  A grid point of the kernel, whole: at the first point the weights are copied in and the carried rows are zeroed, then
  the body runs as at every other point.
-/
module

public import proofs.«01_k».proof.Proof.RecutEq
public import proofs.«01_k».proof.Proof.Main

@[expose] public section

set_option maxRecDepth 16384
set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

variable {F : FTy → Type} [FloatOps F]

local notation "𝕄" => MT nD τ sig Unit (Elt F) ℕ (Pipeline.UD sig nD τ) ℕ

variable (c : Dev nD) (B : Bufs)

/-- The four weights where the kernel finds them. -/
structure Far (F : FTy → Type) where
  x17 : Vec F S1x1024x3072 .f32
  x18 : Vec F S1x1024x1024 .f32
  x19 : Vec F S2x1024x5632 .f32
  x20 : Vec F S2x2816x1024 .f32

/-- The weights as the kernel holds them. -/
def near (S : Far F) : Wts F := ⟨wt sizes0 S.x17, wt sizes1 S.x18, wt sizes2 S.x19, wt sizes3 S.x20⟩

/-- The weights where the kernel finds them, the staging slots, and the copies' semaphores at rest. -/
def farAt (S : Far F) : sProp 𝕄 :=
  iprop((has c B.a17 S.x17 ∗ any (F := F) c B.r0 ∗ rest (F := F) B.m0 c) ∗ (has c B.a18 S.x18 ∗ any (F := F) c B.r1 ∗ rest (F := F) B.m1 c)
    ∗ (has c B.a19 S.x19 ∗ any (F := F) c B.r2 ∗ rest (F := F) B.m2 c) ∗ (has c B.a20 S.x20 ∗ any (F := F) c B.r3 ∗ rest (F := F) B.m3 c))

/-- The core's own tallies. -/
def tally : sProp 𝕄 := iprop(∃ W, owes (c : Thread nD τ) 0 W)

/-- The buffers a later point reads, before anything is in them. -/
def blank : sProp 𝕄 :=
  iprop(any (F := F) c B.a23 ∗ any (F := F) c B.a30 ∗ any (F := F) c B.a31 ∗ any (F := F) c B.a32 ∗ any (F := F) c B.a33)

/-- Between two grid points: the carried rows are `H`, the weights are in. -/
def carry (S : Far F) (H : Vec F S544x1024 .f32) : sProp 𝕄 :=
  iprop(tmp (F := F) c B ∗ has c B.a23 H ∗ wtsAt c B (near S) ∗ farAt c B S)

theorem zeroH_spec : (any (F := F) c B.a23) ⊢ WP c (zeroH (F := F) B) (fun _ => has c B.a23 (k0_pay1 (F := F))) := by
  unfold zeroH any
  iintro ⟨%d, H⟩
  iapply (wp_ld c (hn := h_S544x1024)) $$ H
  iintro H
  iapply (wp_stF_last c (hn := h_S544x1024)) $$ H
  iintro H
  iapply (has_eq c (put_all (s := S544x1024) d (inb2 (by decide) (by decide)) _)) $$ H

theorem loads_spec (S : Far F) :
    iprop(blank (F := F) c B ∗ farAt c B S ∗ tally (F := F) c)
      ⊢ WP c (loads (F := F) B) (fun _ => iprop(has c B.a23 (k0_pay1 (F := F)) ∗ wtsAt c B (near S) ∗ farAt c B S ∗ tally (F := F) c)) := by
  unfold loads blank farAt tally wtsAt near
  iintro ⟨⟨Hh, H0, H1, H2, H3⟩, ⟨⟨P0, S0, R0⟩, ⟨P1, S1, R1⟩, ⟨P2, S2, R2⟩, ⟨P3, S3, R3⟩⟩, HW⟩
  iapply (wp_then c (zeroH_spec c B)) $$ Hh
  iintro Hh
  iapply (wp_then c (ring_spec sizes0 B.a17 B.a30 B.h30 B.r0 B.m0 c S.x17)) $$ [P0 S0 R0 H0 HW]
  · isplitl [P0]; · iexact P0
    isplitl [S0]; · iexact S0
    isplitl [R0]; · iexact R0
    isplitl [H0]; · iexact H0
    iexact HW
  iintro ⟨P0, S0, R0, H0, HW⟩
  iapply (wp_then c (ring_spec sizes1 B.a18 B.a31 B.h31 B.r1 B.m1 c S.x18)) $$ [P1 S1 R1 H1 HW]
  · isplitl [P1]; · iexact P1
    isplitl [S1]; · iexact S1
    isplitl [R1]; · iexact R1
    isplitl [H1]; · iexact H1
    iexact HW
  iintro ⟨P1, S1, R1, H1, HW⟩
  iapply (wp_then c (ring_spec sizes2 B.a19 B.a32 B.h32 B.r2 B.m2 c S.x19)) $$ [P2 S2 R2 H2 HW]
  · isplitl [P2]; · iexact P2
    isplitl [S2]; · iexact S2
    isplitl [R2]; · iexact R2
    isplitl [H2]; · iexact H2
    iexact HW
  iintro ⟨P2, S2, R2, H2, HW⟩
  iapply (wp_wand _ _ _ (Q := _)) $$ [P3 S3 R3 H3 HW]
  · iapply (ring_spec sizes3 B.a20 B.a33 B.h33 B.r3 B.m3 c S.x20)
    isplitl [P3]; · iexact P3
    isplitl [S3]; · iexact S3
    isplitl [R3]; · iexact R3
    isplitl [H3]; · iexact H3
    iexact HW
  iintro %_ ⟨P3, S3, R3, H3, HW⟩
  isplitl [Hh]; · iexact Hh
  isplitl [H0 H1 H2 H3]
  · isplitl [H0]; · iexact H0
    isplitl [H1]; · iexact H1
    isplitl [H2]; · iexact H2
    iexact H3
  isplitr [HW]
  · isplitl [P0 S0 R0]
    · isplitl [P0]; · iexact P0
      isplitl [S0]; · iexact S0
      iexact R0
    isplitl [P1 S1 R1]
    · isplitl [P1]; · iexact P1
      isplitl [S1]; · iexact S1
      iexact R1
    isplitl [P2 S2 R2]
    · isplitl [P2]; · iexact P2
      isplitl [S2]; · iexact S2
      iexact R2
    isplitl [P3]; · iexact P3
    isplitl [S3]; · iexact S3
    iexact R3
  iexact HW

variable (i : grid0.Coords) (X : Ins F) (S : Far F)

/-- What is left after a grid point that found the carried rows `H`. -/
def after (H : Vec F S544x1024 .f32) : sProp 𝕄 :=
  iprop(insAt c B X ∗ has c B.a21 (outOf i X (near S) H) ∗ carry c B S (mixOf i X (near S)) ∗ tally (F := F) c)

theorem main_after (H : Vec F S544x1024 .f32) :
    iprop(insAt c B X ∗ any (F := F) c B.a21 ∗ carry c B S H ∗ tally (F := F) c) ⊢ WP c (main i B) (fun _ => after c B i X S H) := by
  unfold carry after carry
  iintro ⟨HI, HO, ⟨HT, HH, HW, HF⟩, HY⟩
  iapply (wp_wand _ _ _ (Q := _)) $$ [HI HO HT HH HW]
  · iapply (main_spec c B i X (near S) H)
    isplitl [HI]; · iexact HI
    isplitl [HW]; · iexact HW
    isplitl [HT]; · iexact HT
    isplitl [HH]; · iexact HH
    iexact HO
  iintro %_ ⟨HI, HW, HT, HH, HO⟩
  isplitl [HI]; · iexact HI
  isplitl [HO]; · iexact HO
  isplitl [HT HH HW HF]
  · isplitl [HT]; · iexact HT
    isplitl [HH]; · iexact HH
    isplitl [HW]; · iexact HW
    iexact HF
  iexact HY

/-- A grid point after the first. -/
theorem later_spec (h : ¬ isFirst i) (H : Vec F S544x1024 .f32) :
    iprop(insAt c B X ∗ any (F := F) c B.a21 ∗ carry c B S H ∗ tally (F := F) c) ⊢ WP c (body i B) (fun _ => after c B i X S H) := by
  rw [body_later i B h]
  exact main_after c B i X S H

/-- The first grid point. -/
theorem first_spec (h : isFirst i) :
    iprop(insAt c B X ∗ any (F := F) c B.a21 ∗ (tmp (F := F) c B ∗ blank (F := F) c B ∗ farAt c B S) ∗ tally (F := F) c)
      ⊢ WP c (body i B) (fun _ => after c B i X S (k0_pay1 (F := F))) := by
  rw [body_first i B h]
  iintro ⟨HI, HO, ⟨HT, HB, HF⟩, HY⟩
  iapply (wp_then c (loads_spec c B S)) $$ [HB HF HY]
  · isplitl [HB]; · iexact HB
    isplitl [HF]; · iexact HF
    iexact HY
  iintro ⟨HH, HW, HF, HY⟩
  iapply (main_after c B i X S (k0_pay1 (F := F)))
  isplitl [HI]; · iexact HI
  isplitl [HO]; · iexact HO
  isplitl [HT HH HW HF]
  · unfold carry
    isplitl [HT]; · iexact HT
    isplitl [HH]; · iexact HH
    isplitl [HW]; · iexact HW
    iexact HF
  iexact HY

end Cert.Proof

end
-- ==== Proof.Run.lean ====
/-
  The launch: every grid point's blocks and what it leaves, the run of the whole program, and what it leaves of the
  arguments and the semaphores.
-/
module

public import proofs.«01_k».proof.Proof.Points

@[expose] public section

set_option maxRecDepth 16384
set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- The program up to the kernel. -/
theorem start_main (𝒱₀ : Variants) :
    Pipeline.HMain (Ix := Unit) (Name := ℕ) (U := Pipeline.UD sig nD τ) (Lvl := ℕ) cfgs 0 defs₀ 𝒱₀ m (Cert.KernelIdeal.main (F := F)) (V m) :=
  Pipeline.hmain_region cfgs 0 defs₀ 𝒱₀ m Cert.KernelIdeal.main fun c => (main_chain c).trans rfl

/-- The buffers of grid point `t`. -/
def bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), Memref.whole main_arg2, Memref.isWhole_whole _, Memref.whole main_arg6, Memref.isWhole_whole _, Memref.whole main_arg10, Memref.isWhole_whole _, Memref.whole main_arg14, Memref.isWhole_whole _, win0_16.stage (cfg0.slots t 16), hstage0_16 ((cfg0.slots t 16).cast nbuf0_16), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scoped0, Memref.isWhole_whole _, cc0_scoped1, Memref.whole cc0_scoped2, Memref.isWhole_whole _, cc0_scoped3, Memref.whole cc0_scoped4, Memref.isWhole_whole _, cc0_scoped5, Memref.whole cc0_scoped6, Memref.isWhole_whole _, cc0_scoped7⟩

theorem body_bufs (t : Fin cfg0.N) : body (F := F) (grid0.coords t) (bufs t) = bodyAt0 t := rfl

/-- The blocks of grid point `t`. -/
def ins (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- The weights as launched. -/
def far : Far F := ⟨V m c main_arg2, V m c main_arg6, V m c main_arg10, V m c main_arg14⟩

/-- The rows carried into grid point `n`. -/
def hid : ℕ → Vec F S544x1024 .f32
  | 0 => k0_pay1 (F := F)
  | n + 1 => if h : n < cfg0.N then mixOf (grid0.coords ⟨n, h⟩) (ins m c ⟨n, h⟩) (near (far m c)) else k0_pay1 (F := F)

/-- The tile grid point `t` leaves. -/
def tile (t : Fin cfg0.N) : Vec F S1x512x1024 .f32 :=
  outOf (grid0.coords t) (ins m c t) (near (far m c)) (hid m c t.val)

theorem isFirst_iff (t : Fin cfg0.N) : isFirst (grid0.coords t) ↔ t.val = 0 := by
  revert t; unfold isFirst; decide +kernel

/-! ### What the launch hands the kernel -/

/-- The copies' semaphores. -/
abbrev osem0 : Fin 20 → SemLoc sig := fun j => SemLoc.dma ⟨22 + j.val, by have := j.isLt; show 22 + j.val < 42; omega⟩

theorem ownSemFacts0 : Pipeline.OwnSemFacts spec0 osem0 := by decide

/-- The four weights. -/
def H0 : Finset (Ref sig .tc) := {main_arg2, main_arg6, main_arg10, main_arg14}

theorem H0_sub : H0 ⊆ Pipeline.restRefs sig spec0 := by decide

theorem any_whole (b : Ref sig .tc) :
    (any (F := F) c (Memref.whole b) : sProp 𝕄) = iprop(∃ f, ((c : Thread nD τ).loc b) ↦{fullShare} f) := by
  unfold any has
  simp only [owns_whole]

theorem scoped_eq : (Pipeline.scopedRest (Ix := Unit) (Name := ℕ) (U := Pipeline.UD sig nD τ) (Lvl := ℕ) (Val := Elt F) spec0 c : sProp 𝕄)
    = iprop(any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5) ∗ any (F := F) c (Memref.whole cc0_scratch6) ∗ any (F := F) c (Memref.whole cc0_scratch7) ∗ any (F := F) c (Memref.whole cc0_scratch8) ∗ any (F := F) c (Memref.whole cc0_scratch9) ∗ any (F := F) c (Memref.whole cc0_scratch10) ∗ any (F := F) c (Memref.whole cc0_scratch11) ∗ any (F := F) c (Memref.whole cc0_scoped0) ∗ any (F := F) c (Memref.whole cc0_scoped2) ∗ any (F := F) c (Memref.whole cc0_scoped4) ∗ any (F := F) c (Memref.whole cc0_scoped6)) := by
  rw [scopedRest0_eq]
  simp only [any_whole]

/-- Five neighbouring semaphores at rest, one by one. -/
theorem rest_eq (b : ℕ) (hb : b + S5.numel ≤ 42) (h : ∀ k < 5, b + k < sig.nDmaSem) :
    rest (F := F) (SemArray.consecutive b S5 hb : DmaSems sig S5) c
      = iprop(semVal ((c : Thread nD τ), SemLoc.dma ⟨b + 0, h 0 (by decide)⟩) 0 ∗ semVal ((c : Thread nD τ), SemLoc.dma ⟨b + 1, h 1 (by decide)⟩) 0
        ∗ semVal ((c : Thread nD τ), SemLoc.dma ⟨b + 2, h 2 (by decide)⟩) 0 ∗ semVal ((c : Thread nD τ), SemLoc.dma ⟨b + 3, h 3 (by decide)⟩) 0
        ∗ semVal ((c : Thread nD τ), SemLoc.dma ⟨b + 4, h 4 (by decide)⟩) 0) :=
  rfl

theorem twenty {M : Type} [URA M] (Φ : Fin 20 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [(0 : Fin 20), 1, 2, 3, 4, 5, 6, 7, 8, 9, 10, 11, 12, 13, 14, 15, 16, 17, 18, 19] (by decide) (by decide) Φ

theorem sems_eq : (Pipeline.ownSems0 (Ix := Unit) (Name := ℕ) (U := Pipeline.UD sig nD τ) (Lvl := ℕ) (Val := Elt F) (τ := τ) osem0 c : sProp 𝕄)
    ⊣⊢ iprop(rest (F := F) cc0_scoped1 c ∗ rest (F := F) cc0_scoped3 c ∗ rest (F := F) cc0_scoped5 c ∗ rest (F := F) cc0_scoped7 c) := by
  unfold Pipeline.ownSems0
  rw [twenty]
  have e1 := rest_eq (F := F) c 22 (by decide) (by decide)
  have e3 := rest_eq (F := F) c 27 (by decide) (by decide)
  have e5 := rest_eq (F := F) c 32 (by decide) (by decide)
  have e7 := rest_eq (F := F) c 37 (by decide) (by decide)
  rw [show rest (F := F) cc0_scoped1 c = _ from e1, show rest (F := F) cc0_scoped3 c = _ from e3,
    show rest (F := F) cc0_scoped5 c = _ from e5, show rest (F := F) cc0_scoped7 c = _ from e7]
  constructor
  · iintro ⟨C0, C1, C2, C3, C4, C5, C6, C7, C8, C9, C10, C11, C12, C13, C14, C15, C16, C17, C18, C19⟩
    isplitl [C0 C1 C2 C3 C4]
    · isplitl [C0]; · iexact C0
      isplitl [C1]; · iexact C1
      isplitl [C2]; · iexact C2
      isplitl [C3]; · iexact C3
      iexact C4
    isplitl [C5 C6 C7 C8 C9]
    · isplitl [C5]; · iexact C5
      isplitl [C6]; · iexact C6
      isplitl [C7]; · iexact C7
      isplitl [C8]; · iexact C8
      iexact C9
    isplitl [C10 C11 C12 C13 C14]
    · isplitl [C10]; · iexact C10
      isplitl [C11]; · iexact C11
      isplitl [C12]; · iexact C12
      isplitl [C13]; · iexact C13
      iexact C14
    isplitl [C15]; · iexact C15
    isplitl [C16]; · iexact C16
    isplitl [C17]; · iexact C17
    isplitl [C18]; · iexact C18
    iexact C19
  · iintro ⟨⟨C0, C1, C2, C3, C4⟩, ⟨C5, C6, C7, C8, C9⟩, ⟨C10, C11, C12, C13, C14⟩, C15, C16, C17, C18, C19⟩
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    iexact C19

theorem far_eq : (bigSep H0 (fun b => ((c : Thread nD τ).loc b) ↦{fullShare} V m c b) : sProp 𝕄)
    = iprop(has c (Memref.whole main_arg2) (V m c main_arg2) ∗ has c (Memref.whole main_arg6) (V m c main_arg6)
      ∗ has c (Memref.whole main_arg10) (V m c main_arg10) ∗ has c (Memref.whole main_arg14) (V m c main_arg14)) := by
  rw [BI.bigSep_eq_bigSepL_of_eq [main_arg2, main_arg6, main_arg10, main_arg14] (by decide) (by decide)]
  unfold has
  simp only [owns_whole]
  rfl

theorem phi_open (t : Fin cfg0.N) : (Pipeline.ΦD osem0 spec0 H0 (V m) c : sProp 𝕄)
    ⊢ iprop((∃ r, prngReg c r) ∗ tmp (F := F) c (bufs t) ∗ blank (F := F) c (bufs t) ∗ farAt c (bufs t) (far m c)) := by
  rw [Pipeline.ΦD_eq, scoped_eq, far_eq]
  iintro ⟨⟨S0, S1, S2, S3, S4, S5, S6, S7, S8, S9, S10, S11, R0, R1, R2, R3⟩, HR, HS, ⟨P0, P1, P2, P3⟩⟩
  icases (sems_eq (F := F) c).1 $$ HS with ⟨M0, M1, M2, M3⟩
  isplitl [HR]; · iexact HR
  isplitl [S0 S2 S3 S4 S5 S6 S7]
  · unfold tmp
    isplitl [S0]; · iexact S0
    isplitl [S2]; · iexact S2
    isplitl [S3]; · iexact S3
    isplitl [S4]; · iexact S4
    isplitl [S5]; · iexact S5
    isplitl [S6]; · iexact S6
    iexact S7
  isplitl [S1 S8 S9 S10 S11]
  · unfold blank
    isplitl [S1]; · iexact S1
    isplitl [S8]; · iexact S8
    isplitl [S9]; · iexact S9
    isplitl [S10]; · iexact S10
    iexact S11
  unfold farAt
  isplitl [P0 R0 M0]
  · isplitl [P0]; · iexact P0
    isplitl [R0]; · iexact R0
    iexact M0
  isplitl [P1 R1 M1]
  · isplitl [P1]; · iexact P1
    isplitl [R1]; · iexact R1
    iexact M1
  isplitl [P2 R2 M2]
  · isplitl [P2]; · iexact P2
    isplitl [R2]; · iexact R2
    iexact M2
  isplitl [P3]; · iexact P3
  isplitl [R3]; · iexact R3
  iexact M3

theorem phi_close (t : Fin cfg0.N) (H : Vec F S544x1024 .f32) :
    iprop((∃ r, prngReg c r) ∗ carry c (bufs t) (far m c) H) ⊢ (Pipeline.ΦD osem0 spec0 H0 (V m) c : sProp 𝕄) := by
  rw [Pipeline.ΦD_eq, scoped_eq, far_eq]
  unfold carry tmp wtsAt farAt
  iintro ⟨HR, ⟨S0, S2, S3, S4, S5, S6, S7⟩, S1, ⟨S8, S9, S10, S11⟩, ⟨P0, R0, M0⟩, ⟨P1, R1, M1⟩, ⟨P2, R2, M2⟩, ⟨P3, R3, M3⟩⟩
  isplitl [S0 S1 S2 S3 S4 S5 S6 S7 S8 S9 S10 S11 R0 R1 R2 R3]
  · isplitl [S0]; · iexact S0
    isplitl [S1]; · unfold any; iexists _; iexact S1
    isplitl [S2]; · iexact S2
    isplitl [S3]; · iexact S3
    isplitl [S4]; · iexact S4
    isplitl [S5]; · iexact S5
    isplitl [S6]; · iexact S6
    isplitl [S7]; · iexact S7
    isplitl [S8]; · unfold any; iexists _; iexact S8
    isplitl [S9]; · unfold any; iexists _; iexact S9
    isplitl [S10]; · unfold any; iexists _; iexact S10
    isplitl [S11]; · unfold any; iexists _; iexact S11
    isplitl [R0]; · iexact R0
    isplitl [R1]; · iexact R1
    isplitl [R2]; · iexact R2
    iexact R3
  isplitl [HR]; · iexact HR
  isplitl [M0 M1 M2 M3]
  · iapply (sems_eq (F := F) c).2
    isplitl [M0]; · iexact M0
    isplitl [M1]; · iexact M1
    isplitl [M2]; · iexact M2
    iexact M3
  isplitl [P0]; · iexact P0
  isplitl [P1]; · iexact P1
  isplitl [P2]; · iexact P2
  iexact P3

/-! ### The grid -/

/-- What holds between the grid points. -/
def between : (n : ℕ) → n ≤ cfg0.N → sProp 𝕄
  | 0, _ => Pipeline.ΦD osem0 spec0 H0 (V m) c
  | n + 1, _ => iprop((∃ r, prngReg c r) ∗ carry c (bufs ⟨0, by decide⟩) (far m c) (hid m c (n + 1)))

/-- What each grid point finds and leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => tile m c t
    | ⟨_ + 17, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_zero (n : ℕ) (h : n ≤ cfg0.N) (hz : n = 0) : between m c n h = Pipeline.ΦD osem0 spec0 H0 (V m) c := by
  subst hz; rfl

theorem between_pos (n : ℕ) (h : n ≤ cfg0.N) (hz : n ≠ 0) (t : Fin cfg0.N) :
    between m c n h = iprop((∃ r, prngReg c r) ∗ carry c (bufs t) (far m c) (hid m c n)) := by
  cases n with
  | zero => exact absurd rfl hz
  | succ n => rfl

theorem hid_succ (t : Fin cfg0.N) : hid m c (t.val + 1) = mixOf (grid0.coords t) (ins m c t) (near (far m c)) := by
  show dite _ _ _ = _
  rw [dif_pos t.isLt]

theorem between_at (t : Fin cfg0.N) : (dats m 0 c).Φ t.castSucc = between m c t.val (Nat.le_of_lt t.isLt) := by
  dsimp only [dats]; exact Pipeline.Dat.Φ_castSucc (between m c) t

/-- The input blocks' windows find the blocks. -/
theorem before_ins (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t)
      ∧ (∀ d, (dats m 0 c).before 6 t d = iblk m c 6 t)
      ∧ (∀ d, (dats m 0 c).before 7 t d = iblk m c 7 t)
      ∧ (∀ d, (dats m 0 c).before 8 t d = iblk m c 8 t)
      ∧ (∀ d, (dats m 0 c).before 9 t d = iblk m c 9 t)
      ∧ (∀ d, (dats m 0 c).before 10 t d = iblk m c 10 t)
      ∧ (∀ d, (dats m 0 c).before 11 t d = iblk m c 11 t)
      ∧ (∀ d, (dats m 0 c).before 12 t d = iblk m c 12 t)
      ∧ (∀ d, (dats m 0 c).before 13 t d = iblk m c 13 t)
      ∧ (∀ d, (dats m 0 c).before 14 t d = iblk m c 14 t)
      ∧ (∀ d, (dats m 0 c).before 15 t d = iblk m c 15 t) := by
  refine ⟨?_, ?_, ?_, ?_, ?_, ?_, ?_, ?_, ?_, ?_, ?_, ?_, ?_, ?_, ?_, ?_⟩ <;> intro d <;>
    exact ((dats m 0 c).before_in_eq_fetched _ rfl (fun _ => rfl) (fun _ _ _ => rfl) (fun _ => rfl) t d).trans rfl

def bodyPre (t : Fin cfg0.N) : sProp 𝕄 :=
  iprop((dats m 0 c).Φ t.castSucc ∗ (dats m 0 c).owesAt () t.castSucc
    ∗ (∃ d, has c (bufs t).a1 ((dats m 0 c).before 0 t d))
    ∗ (∃ d, has c (bufs t).a2 ((dats m 0 c).before 1 t d))
    ∗ (∃ d, has c (bufs t).a3 ((dats m 0 c).before 2 t d))
    ∗ (∃ d, has c (bufs t).a4 ((dats m 0 c).before 3 t d))
    ∗ (∃ d, has c (bufs t).a5 ((dats m 0 c).before 4 t d))
    ∗ (∃ d, has c (bufs t).a6 ((dats m 0 c).before 5 t d))
    ∗ (∃ d, has c (bufs t).a7 ((dats m 0 c).before 6 t d))
    ∗ (∃ d, has c (bufs t).a8 ((dats m 0 c).before 7 t d))
    ∗ (∃ d, has c (bufs t).a9 ((dats m 0 c).before 8 t d))
    ∗ (∃ d, has c (bufs t).a10 ((dats m 0 c).before 9 t d))
    ∗ (∃ d, has c (bufs t).a11 ((dats m 0 c).before 10 t d))
    ∗ (∃ d, has c (bufs t).a12 ((dats m 0 c).before 11 t d))
    ∗ (∃ d, has c (bufs t).a13 ((dats m 0 c).before 12 t d))
    ∗ (∃ d, has c (bufs t).a14 ((dats m 0 c).before 13 t d))
    ∗ (∃ d, has c (bufs t).a15 ((dats m 0 c).before 14 t d))
    ∗ (∃ d, has c (bufs t).a16 ((dats m 0 c).before 15 t d))
    ∗ (∃ d, has c (bufs t).a21 ((dats m 0 c).before 16 t d)))

def bodyPost (t : Fin cfg0.N) : sProp 𝕄 :=
  iprop((dats m 0 c).Φ t.succ ∗ (dats m 0 c).owesAt () t.succ
    ∗ has c (bufs t).a1 ((dats m 0 c).after 0 t)
    ∗ has c (bufs t).a2 ((dats m 0 c).after 1 t)
    ∗ has c (bufs t).a3 ((dats m 0 c).after 2 t)
    ∗ has c (bufs t).a4 ((dats m 0 c).after 3 t)
    ∗ has c (bufs t).a5 ((dats m 0 c).after 4 t)
    ∗ has c (bufs t).a6 ((dats m 0 c).after 5 t)
    ∗ has c (bufs t).a7 ((dats m 0 c).after 6 t)
    ∗ has c (bufs t).a8 ((dats m 0 c).after 7 t)
    ∗ has c (bufs t).a9 ((dats m 0 c).after 8 t)
    ∗ has c (bufs t).a10 ((dats m 0 c).after 9 t)
    ∗ has c (bufs t).a11 ((dats m 0 c).after 10 t)
    ∗ has c (bufs t).a12 ((dats m 0 c).after 11 t)
    ∗ has c (bufs t).a13 ((dats m 0 c).after 12 t)
    ∗ has c (bufs t).a14 ((dats m 0 c).after 13 t)
    ∗ has c (bufs t).a15 ((dats m 0 c).after 14 t)
    ∗ has c (bufs t).a16 ((dats m 0 c).after 15 t)
    ∗ has c (bufs t).a21 ((dats m 0 c).after 16 t))

/-- What a grid point leaves is what the next one finds. -/
theorem between_close (t : Fin cfg0.N) :
    iprop((∃ r, prngReg c r) ∗ carry c (bufs t) (far m c) (mixOf (grid0.coords t) (ins m c t) (near (far m c)))) ⊢ (dats m 0 c).Φ t.succ := by
  rw [show (dats m 0 c).Φ t.succ = between m c (t.val + 1) t.isLt from rfl, between_pos m c (t.val + 1) t.isLt (Nat.succ_ne_zero _) t, hid_succ]

/-- The body at any grid point. -/
theorem point_spec (t : Fin cfg0.N) :
    iprop(between m c t.val (Nat.le_of_lt t.isLt) ∗ insAt c (bufs t) (ins m c t) ∗ any (F := F) c (bufs t).a21 ∗ tally (F := F) c)
      ⊢ WP c (body (grid0.coords t) (bufs t)) (fun _ =>
        iprop((∃ r, prngReg c r) ∗ after c (bufs t) (grid0.coords t) (ins m c t) (far m c) (hid m c t.val))) := by
  by_cases h : t.val = 0
  · rw [between_zero m c t.val (Nat.le_of_lt t.isLt) h, show hid m c t.val = k0_pay1 (F := F) from by rw [h]; rfl]
    iintro ⟨HP, HI, HO, HY⟩
    icases (phi_open m c t) $$ HP with ⟨HR, HC⟩
    iapply (wp_wand _ _ _ (Q := _)) $$ [HI HO HC HY]
    · iapply (first_spec c (bufs t) (grid0.coords t) (ins m c t) (far m c) ((isFirst_iff t).2 h))
      isplitl [HI]; · iexact HI
      isplitl [HO]; · iexact HO
      isplitl [HC]; · iexact HC
      iexact HY
    iintro %_ HA
    isplitl [HR]; · iexact HR
    iexact HA
  · rw [between_pos m c t.val (Nat.le_of_lt t.isLt) h t]
    iintro ⟨⟨HR, HC⟩, HI, HO, HY⟩
    iapply (wp_wand _ _ _ (Q := _)) $$ [HI HO HC HY]
    · iapply (later_spec c (bufs t) (grid0.coords t) (ins m c t) (far m c) (fun e => h ((isFirst_iff t).1 e)) (hid m c t.val))
      isplitl [HI]; · iexact HI
      isplitl [HO]; · iexact HO
      isplitl [HC]; · iexact HC
      iexact HY
    iintro %_ HA
    isplitl [HR]; · iexact HR
    iexact HA

theorem sound_body (t : Fin cfg0.N) :
    bodyPre m c t ⊢ WP c (bodyAt0 t) (fun _ => bodyPost m c t) := by
  obtain ⟨e0, e1, e2, e3, e4, e5, e6, e7, e8, e9, e10, e11, e12, e13, e14, e15⟩ := before_ins m c t
  unfold bodyPre bodyPost
  simp only [e0, e1, e2, e3, e4, e5, e6, e7, e8, e9, e10, e11, e12, e13, e14, e15]
  rw [← body_bufs, between_at]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  unfold Dat.owesAt Pipeline.owesWithin
  icases HO with ⟨%W, %_hW, HO⟩
  iapply (wp_wand _ _ _ (Q := _)) $$ [HP HO H0 H1 H2 H3 H4 H5 H6 H7 H8 H9 H10 H11 H12 H13 H14 H15 H16]
  · iapply (point_spec m c t)
    isplitl [HP]; · iexact HP
    isplitl [H0 H1 H2 H3 H4 H5 H6 H7 H8 H9 H10 H11 H12 H13 H14 H15]
    · unfold insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [H16]; · unfold any; iexists _; iexact H16
    unfold tally; iexists _; iexact HO
  unfold after insAt tally
  iintro %_ ⟨HR, ⟨H0, H1, H2, H3, H4, H5, H6, H7, H8, H9, H10, H11, H12, H13, H14, H15⟩, HO, HC, ⟨%W', HW⟩⟩
  isplitl [HR HC]
  · iapply (between_close m c t)
    isplitl [HR]; · iexact HR
    iexact HC
  isplitl [HW]
  · iexists W'
    isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HO

theorem body_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, body_row]
  exact triple_restated (sound_body m c t) rfl .rfl fun _ => .rfl

/-! ### The run -/

set_option backward.isDefEq.respectTransparency.types false in
/-- The program runs, every array ends as the grid leaves it, and every semaphore ends at rest. -/
theorem run_main : θ_run defs (onTc (τ := τ) (Cert.KernelIdeal.main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ
    Cert.KernelIdeal.main (hbody := fun c => (body_obligation m c).loose) (hq := fun _ _ _ => rfl) (howed := fun _ _ => rfl) (V := V m)
    (hmain := start_main m Variants.none) (hA := A_eq m) (hin := fun _ => .rfl) (hout := fun c => phi_close m c _ _)

/-- The arguments end as launched. -/
theorem args_kept {r : PUnit × MemSt nD τ sig (Elt F)} (h : Pipeline.FramePost cfgs (dats m) 0 (V m) r ∧ r.2.sem = fun _ => 0) :
    ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  fun c => ⟨((h.1 c).1 2).trans ((dats m 0 c).arrAt_in 2 rfl _),
      ((h.1 c).1 3).trans ((dats m 0 c).arrAt_in 3 rfl _),
      (h.1 c).2 main_arg2 (Pipeline.mem_restRefs_of main_arg2 (by decide) (by decide)),
      ((h.1 c).1 4).trans ((dats m 0 c).arrAt_in 4 rfl _),
      ((h.1 c).1 5).trans ((dats m 0 c).arrAt_in 5 rfl _),
      ((h.1 c).1 6).trans ((dats m 0 c).arrAt_in 6 rfl _),
      (h.1 c).2 main_arg6 (Pipeline.mem_restRefs_of main_arg6 (by decide) (by decide)),
      ((h.1 c).1 7).trans ((dats m 0 c).arrAt_in 7 rfl _),
      ((h.1 c).1 8).trans ((dats m 0 c).arrAt_in 8 rfl _),
      ((h.1 c).1 9).trans ((dats m 0 c).arrAt_in 9 rfl _),
      (h.1 c).2 main_arg10 (Pipeline.mem_restRefs_of main_arg10 (by decide) (by decide)),
      ((h.1 c).1 10).trans ((dats m 0 c).arrAt_in 10 rfl _),
      ((h.1 c).1 11).trans ((dats m 0 c).arrAt_in 11 rfl _),
      ((h.1 c).1 12).trans ((dats m 0 c).arrAt_in 12 rfl _),
      (h.1 c).2 main_arg14 (Pipeline.mem_restRefs_of main_arg14 (by decide) (by decide)),
      ((h.1 c).1 13).trans ((dats m 0 c).arrAt_in 13 rfl _),
      ((h.1 c).1 14).trans ((dats m 0 c).arrAt_in 14 rfl _),
      ((h.1 c).1 15).trans ((dats m 0 c).arrAt_in 15 rfl _)⟩

/-- The program runs, its arguments end as launched, and every semaphore ends at rest. -/
theorem kept_main : θ_run defs (onTc (τ := τ) (Cert.KernelIdeal.main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨args_kept m h, h.2⟩) (run_main m ρ)

end Cert.Proof

end
-- ==== Proof.Same.lean ====
/-
  The program and its reading over the extended reals have the same text: one run serves both.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

theorem same_body : (Cert.Kernel.cc0_layer_c (F := F)) = Cert.KernelIdeal.cc0_layer_c (F := F) := rfl

set_option maxHeartbeats 1000000 in
theorem same_defs₀ : (Cert.Kernel.defs₀ (F := F)) = Cert.KernelIdeal.defs₀ (F := F) := by
  unfold Cert.Kernel.defs₀ Cert.KernelIdeal.defs₀
  rw [same_body]
  refine congrArg Defs.onTc ?_
  funext l x
  match l, x with
  | 0, (t, s) => rfl

theorem same_defs : (Cert.Kernel.defs (F := F)) = Cert.KernelIdeal.defs (F := F) := by
  unfold Cert.Kernel.defs
  rw [same_defs₀]
  rfl

end Cert.Proof

end
-- ==== Proof.Refsum.lean ====
/-
  The reference's values at one batch, one position and one column, over the extended reals: each stage of the layer as
  a function of the stages before it.
-/
module

public import proofs.«01_k».proof.Proof.Gen.ReferenceIdeal.Run
public import Idealize.ShloMosaic.Lib.Pipeline.ValueKit

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

/-- The layer norm of a row `z` at column `d`, with scale `g` and shift `b`. -/
def normed (z : Fin 1024 → EReal) (g b : EReal) (d : Fin 1024) : EReal :=
  (z d - Ideal.div (∑ x, z x) (Ideal.ofBits FTy.f32 1149239296#32)) *
      Ideal.rsqrt
        (Ideal.div
            (∑ x, (z x - Ideal.div (∑ x, z x) (Ideal.ofBits FTy.f32 1149239296#32)) *
                (z x - Ideal.div (∑ x, z x) (Ideal.ofBits FTy.f32 1149239296#32)))
            (Ideal.ofBits FTy.f32 1149239296#32) +
          Ideal.ofBits FTy.f32 925353388#32) * g + b

/-- The residual's factor. -/
abbrev alpha : EReal := Ideal.ofBits FTy.f32 1068827891#32

variable (V : Valuation τ sig (Elt Ideal))

/-! ### The arguments -/

/-- The activations. -/
def xIn (b : Fin 8) (p : Fin 2048) (d : Fin 1024) : EReal := (V (Proc.devRef .tc main_arg0) : FVec Ideal S8x2048x1024 .f32) (ix3 b p d)
/-- The meta rows. -/
def mIn (b : Fin 8) (p : Fin 16) (d : Fin 1024) : EReal := (V (Proc.devRef .tc main_arg1) : FVec Ideal S8x16x1024 .f32) (ix3 b p d)
/-- The mixer's input weight. -/
def wIn (k : Fin 1024) (n : Fin 3072) : EReal := (V (Proc.devRef .tc main_arg2) : FVec Ideal S1x1024x3072 .f32) (ix3 0 k n)
/-- The mixer's input bias. -/
def bIn (n : Fin 3072) : EReal := (V (Proc.devRef .tc main_arg3) : FVec Ideal S1x3072 .f32) (ix2 0 n)
/-- The mixer's taps. -/
def tapM (s : Fin 3) (n : Fin 1024) : EReal := (V (Proc.devRef .tc main_arg4) : FVec Ideal S1x3x1024 .f32) (ix3 0 s n)
/-- The mixer's convolution bias. -/
def cbM (n : Fin 1024) : EReal := (V (Proc.devRef .tc main_arg5) : FVec Ideal S1x1024 .f32) (ix2 0 n)
/-- The mixer's output weight. -/
def wOut (k n : Fin 1024) : EReal := (V (Proc.devRef .tc main_arg6) : FVec Ideal S1x1024x1024 .f32) (ix3 0 k n)
/-- The mixer's output bias. -/
def bOut (n : Fin 1024) : EReal := (V (Proc.devRef .tc main_arg7) : FVec Ideal S1x1024 .f32) (ix2 0 n)
/-- The first norm's scale. -/
def scM (n : Fin 1024) : EReal := (V (Proc.devRef .tc main_arg8) : FVec Ideal S2x1024 .f32) (ix2 1 n)
/-- The first norm's shift. -/
def shM (n : Fin 1024) : EReal := (V (Proc.devRef .tc main_arg9) : FVec Ideal S2x1024 .f32) (ix2 1 n)
/-- The feed forward's input weight. -/
def wUp (k : Fin 1024) (n : Fin 5632) : EReal := (V (Proc.devRef .tc main_arg10) : FVec Ideal S2x1024x5632 .f32) (ix3 1 k n)
/-- The feed forward's input bias. -/
def bUp (n : Fin 5632) : EReal := (V (Proc.devRef .tc main_arg11) : FVec Ideal S2x5632 .f32) (ix2 1 n)
/-- The feed forward's taps. -/
def tapF (s : Fin 3) (n : Fin 2816) : EReal := (V (Proc.devRef .tc main_arg12) : FVec Ideal S2x3x2816 .f32) (ix3 1 s n)
/-- The feed forward's convolution bias. -/
def cbF (n : Fin 2816) : EReal := (V (Proc.devRef .tc main_arg13) : FVec Ideal S2x2816 .f32) (ix2 1 n)
/-- The feed forward's output weight. -/
def wDn (k : Fin 2816) (n : Fin 1024) : EReal := (V (Proc.devRef .tc main_arg14) : FVec Ideal S2x2816x1024 .f32) (ix3 1 k n)
/-- The feed forward's output bias. -/
def bDn (n : Fin 1024) : EReal := (V (Proc.devRef .tc main_arg15) : FVec Ideal S2x1024 .f32) (ix2 1 n)
/-- The second norm's scale. -/
def scF (n : Fin 1024) : EReal := (V (Proc.devRef .tc main_arg16) : FVec Ideal S2x1024 .f32) (ix2 1 n)
/-- The second norm's shift. -/
def shF (n : Fin 1024) : EReal := (V (Proc.devRef .tc main_arg17) : FVec Ideal S2x1024 .f32) (ix2 1 n)

/-! ### The stages -/

/-- The layer's input, the meta rows first. -/
def h0 (b : Fin 8) (p : Fin 2064) (d : Fin 1024) : EReal := (res_main_v0 V : FVec Ideal S8x2064x1024 .f32) (ix3 b p d)
/-- The mixer's first product. -/
def u (b : Fin 8) (p : Fin 2064) (n : Fin 3072) : EReal := (res_main_v10 V : FVec Ideal S8x2064x3072 .f32) (ix3 b p n)
/-- The mixer's gated product, with a zero row before and after. -/
def s (b : Fin 8) (p : Fin 2066) (d : Fin 1024) : EReal := (res_main_v15 V : FVec Ideal S8x2066x1024 .f32) (ix3 b p d)
/-- The first residual sum. -/
def z1 (b : Fin 8) (p : Fin 2064) (d : Fin 1024) : EReal := (res_main_v46 V : FVec Ideal S8x2064x1024 .f32) (ix3 b p d)
/-- The mixer's result, after its norm. -/
def h1 (b : Fin 8) (p : Fin 2064) (d : Fin 1024) : EReal := (res_main_v74 V : FVec Ideal S8x2064x1024 .f32) (ix3 b p d)
/-- The feed forward's first product. -/
def e (b : Fin 8) (p : Fin 2064) (n : Fin 5632) : EReal := (res_main_v90 V : FVec Ideal S8x2064x5632 .f32) (ix3 b p n)
/-- Its gate half, with a zero row before and after. -/
def gt (b : Fin 8) (p : Fin 2066) (d : Fin 2816) : EReal := (res_main_v93 V : FVec Ideal S8x2066x2816 .f32) (ix3 b p d)
/-- The convolved gate. -/
def gc (b : Fin 8) (p : Fin 2064) (d : Fin 2816) : EReal := (res_main_v116 V : FVec Ideal S8x2064x2816 .f32) (ix3 b p d)
/-- The second residual sum. -/
def z2 (b : Fin 8) (p : Fin 2064) (d : Fin 1024) : EReal := (res_main_v125 V : FVec Ideal S8x2064x1024 .f32) (ix3 b p d)

/-- The mixer's rows before its second product. -/
def y (b : Fin 8) (p : Fin 2064) (d : Fin 1024) : EReal :=
  u V b p ⟨d, by omega⟩ *
    (s V b ⟨p, by omega⟩ d * tapM V 0 d + s V b ⟨1 + p, by omega⟩ d * tapM V 1 d + s V b ⟨2 + p, by omega⟩ d * tapM V 2 d + cbM V d)

/-- The feed forward's activation. -/
def act (b : Fin 8) (p : Fin 2064) (d : Fin 2816) : EReal :=
  gc V b p d * Ideal.div 1 (1 + Ideal.exp (-gc V b p d)) * e V b p ⟨2816 + d, by omega⟩

theorem h0_at (b : Fin 8) (p : Fin 2064) (d : Fin 1024) : h0 V b p d
    = if h : p.val < 16 then mIn V b ⟨p, h⟩ d else xIn V b ⟨p - 16, by omega⟩ d := by
  unfold h0 res_main_v0
  pointwise
  rfl

theorem u_at (b : Fin 8) (p : Fin 2064) (n : Fin 3072) : u V b p n = ∑ k, h0 V b p k * wIn V k n + bIn V n := by
  unfold u res_main_v10
  pointwise
  rfl

theorem s_in (b : Fin 8) (q : Fin 2066) (p : Fin 2064) (hp : q.val = p.val + 1) (d : Fin 1024) :
    s V b q d = u V b p ⟨1024 + d, by omega⟩ * u V b p ⟨2048 + d, by omega⟩ := by
  unfold s res_main_v15
  pointwise
  rw [dif_pos ⟨by omega, by omega⟩]
  have h : (⟨q.val - 1, by omega⟩ : Fin 2064) = p := Fin.ext (by simp only; omega)
  rw [h]
  rfl

theorem s_out (b : Fin 8) (q : Fin 2066) (hq : q.val = 0 ∨ q.val = 2065) (d : Fin 1024) : s V b q d = 0 := by
  unfold s res_main_v15
  pointwise
  rw [dif_neg (by omega)]
  simp [FloatOps.sitofp]

theorem z1_at (b : Fin 8) (p : Fin 2064) (d : Fin 1024) :
    z1 V b p d = alpha * h0 V b p d + (∑ k, y V b p k * wOut V k d + bOut V d) := by
  unfold z1 res_main_v46
  pointwise [res_main_v3]
  rfl

theorem h1_at (b : Fin 8) (p : Fin 2064) (d : Fin 1024) : h1 V b p d = normed (z1 V b p) (scM V d) (shM V d) d := by
  unfold h1 res_main_v74
  pointwise [res_main_v56, res_main_v54]
  rfl

theorem e_at (b : Fin 8) (p : Fin 2064) (n : Fin 5632) : e V b p n = ∑ k, h1 V b p k * wUp V k n + bUp V n := by
  unfold e res_main_v90
  pointwise
  rfl

theorem gt_in (b : Fin 8) (q : Fin 2066) (p : Fin 2064) (hp : q.val = p.val + 1) (d : Fin 2816) :
    gt V b q d = e V b p ⟨d, by omega⟩ := by
  unfold gt res_main_v93
  pointwise
  rw [dif_pos ⟨by omega, by omega⟩]
  have h : (⟨q.val - 1, by omega⟩ : Fin 2064) = p := Fin.ext (by simp only; omega)
  rw [h]
  rfl

theorem gt_out (b : Fin 8) (q : Fin 2066) (hq : q.val = 0 ∨ q.val = 2065) (d : Fin 2816) : gt V b q d = 0 := by
  unfold gt res_main_v93
  pointwise
  rw [dif_neg (by omega)]
  simp [FloatOps.sitofp]

theorem gc_at (b : Fin 8) (p : Fin 2064) (d : Fin 2816) : gc V b p d
    = gt V b ⟨p, by omega⟩ d * tapF V 0 d + gt V b ⟨1 + p, by omega⟩ d * tapF V 1 d + gt V b ⟨2 + p, by omega⟩ d * tapF V 2 d + cbF V d := by
  unfold gc res_main_v116
  pointwise [res_main_v80]
  rfl

theorem z2_at (b : Fin 8) (p : Fin 2064) (d : Fin 1024) :
    z2 V b p d = alpha * h1 V b p d + (∑ k, act V b p k * wDn V k d + bDn V d) := by
  unfold z2 res_main_v125
  pointwise
  rfl

/-- The reference's result. -/
def result : FVec Ideal S8x2048x1024 .f32 :=
  extractStridedSlice S8x2048x1024 ![0, 16, 0] (addf (mulf (mulf (subf (res_main_v125 V) (broadcastInDim S8x2064x1024 ![0, 1, 2] bcast_S8x2064x1_S8x2064x1024_0_1_2 (res_main_v133 V))) (broadcastInDim S8x2064x1024 ![0, 1, 2] bcast_S8x2064x1_S8x2064x1024_0_1_2 (Host.rsqrt (addf (Host.divf (broadcastInDim S8x2064x1 ![0, 1] bcast_S8x2064_S8x2064x1_0_1 (Host.reduceAdd (mulf (res_main_v135 V) (res_main_v135 V)) (constant S_ .f32 0x00000000#32) reducesTo_S8x2064x1024_S8x2064_d2 h_S_)) (broadcastInDim S8x2064x1 ![] bcast_S_S8x2064x1 (constant S_ .f32 0x44800000#32))) (broadcastInDim S8x2064x1 ![] bcast_S_S8x2064x1 (constant S_ .f32 0x3727C5AC#32)))))) (broadcastInDim S8x2064x1024 ![0, 1, 2] bcast_S1x1x1024_S8x2064x1024_0_1_2 (broadcastInDim S1x1x1024 ![2] bcast_S1024_S1x1x1024_2 (shapeCast _ (extractStridedSlice S1x1024 ![1, 0] (V (Proc.devRef .tc main_arg16)) slices_S2x1024_S1x1024_1_0) shapeCasts_S1x1024_S1024)))) (broadcastInDim S8x2064x1024 ![0, 1, 2] bcast_S1x1x1024_S8x2064x1024_0_1_2 (broadcastInDim S1x1x1024 ![2] bcast_S1024_S1x1x1024_2 (shapeCast _ (extractStridedSlice S1x1024 ![1, 0] (V (Proc.devRef .tc main_arg17)) slices_S2x1024_S1x1024_1_0) shapeCasts_S1x1024_S1024)))) slices_S8x2064x1024_S8x2048x1024_0_16_0

theorem result_at (b : Fin 8) (p : Fin 2048) (d : Fin 1024) :
    result V (ix3 b p d) = normed (z2 V b ⟨16 + p, by omega⟩) (scF V d) (shF V d) d := by
  unfold result
  pointwise [res_main_v133, res_main_v135]
  rfl

end Cert.Proof.Ref
-- ==== Proof.Rowsum.lean ====
/-
  The kernel's values at one row and one column, over the extended reals, against the reference's stages.
-/
module

public import proofs.«01_k».proof.Proof.Main
public import proofs.«01_k».proof.Proof.Refsum

@[expose] public section

set_option maxRecDepth 16384

noncomputable section

namespace Cert.Proof

open Cert.KernelIdeal Cert.KernelIdeal.Gen
open Idealize.ShloMosaic Idealize.ShloMosaic.TcCoe
open VecWindow

/-- A window of a matrix at a row and a column. -/
theorem win2 {α : Type} {N M n m a b : ℕ} (x : (⟨2, ![N, M]⟩ : Shape).Idx → α)
    (inb : ∀ i : Fin 2, (![a, b] : Fin 2 → ℕ) i + (![n, m] : Fin 2 → ℕ) i ≤ (![N, M] : Fin 2 → ℕ) i) (r : Fin n) (d : Fin m) :
    window x ![a, b] ![n, m] inb (ix2 r d)
      = x (ix2 ⟨a + r, Nat.lt_of_lt_of_le (Nat.add_lt_add_left r.isLt a) (inb 0)⟩
          ⟨b + d, Nat.lt_of_lt_of_le (Nat.add_lt_add_left d.isLt b) (inb 1)⟩) := by
  unfold window
  refine congrArg x (funext fun i => Fin.ext ?_)
  match i with
  | ⟨0, _⟩ => show a + 1 * r.val = a + r.val; omega
  | ⟨1, _⟩ => show b + 1 * d.val = b + d.val; omega

/-- A window of a stack of matrices at a plane, a row and a column. -/
theorem win3 {α : Type} {L N M l n m o a b : ℕ} (x : (⟨3, ![L, N, M]⟩ : Shape).Idx → α)
    (inb : ∀ i : Fin 3, (![o, a, b] : Fin 3 → ℕ) i + (![l, n, m] : Fin 3 → ℕ) i ≤ (![L, N, M] : Fin 3 → ℕ) i)
    (s : Fin l) (r : Fin n) (d : Fin m) :
    window x ![o, a, b] ![l, n, m] inb (ix3 s r d)
      = x (ix3 ⟨o + s, Nat.lt_of_lt_of_le (Nat.add_lt_add_left s.isLt o) (inb 0)⟩
          ⟨a + r, Nat.lt_of_lt_of_le (Nat.add_lt_add_left r.isLt a) (inb 1)⟩
          ⟨b + d, Nat.lt_of_lt_of_le (Nat.add_lt_add_left d.isLt b) (inb 2)⟩) := by
  unfold window
  refine congrArg x (funext fun i => Fin.ext ?_)
  match i with
  | ⟨0, _⟩ => show o + 1 * s.val = o + s.val; omega
  | ⟨1, _⟩ => show a + 1 * r.val = a + r.val; omega
  | ⟨2, _⟩ => show b + 1 * d.val = b + d.val; omega

/-- The mask of the mixer's rows: the positions from the first meta row to the last of the sequence. -/
theorem okX_at : ∀ (q : Fin 4) (r : Fin 560),
    okX (BitVec.ofNat 32 q.val) (ix2 r 0) = if 16 ≤ 512 * q.val + r.val ∧ 512 * q.val + r.val < 2080 then 1#1 else 0#1 := by
  decide +kernel

/-- The mask of the feed forward's rows. -/
theorem okF_at : ∀ (q : Fin 4) (r : Fin 544),
    k0_pay76 (Scalar.subi (Scalar.muli (BitVec.ofNat 32 q.val) 512#32) 16#32) (ix2 r 0)
      = if 8 ≤ 512 * q.val + r.val ∧ 512 * q.val + r.val < 2072 then 1#1 else 0#1 := by
  decide +kernel

/-- The mixer's tile at a grid point. -/
theorem tileM_at : ∀ t : Fin grid0.N, tileM (grid0.coords t) = BitVec.ofNat 32 (min t.val 31 % 4) := by decide +kernel
/-- The feed forward's tile at a grid point. -/
theorem tileF_at : ∀ t : Fin grid0.N, tileF (grid0.coords t) = BitVec.ofNat 32 ((t.val - 1) % 4) := by decide +kernel

/-- A matrix of column chunks at a row and a column. -/
theorem byCols_at {n m k : ℕ} {α : Type} (hm : m ≤ 256 * k) (w : (j : ℕ) → j < k → (⟨2, ![n, 256]⟩ : Shape).Idx → α)
    (r : Fin n) (d : Fin m) : byCols hm w (ix2 r d)
      = w (d / 256) (by have := d.isLt; omega) (ix2 r ⟨d % 256, by omega⟩) := by
  unfold byCols
  refine congrArg (w _ _) (funext fun i => ?_)
  match i with
  | ⟨0, _⟩ => rfl
  | ⟨1, _⟩ => rfl

/-- A matrix of row chunks at a row and a column. -/
theorem byRows_at {n m k : ℕ} {α : Type} (hn : n ≤ 16 * k) (w : (j : ℕ) → j < k → (⟨2, ![16, m]⟩ : Shape).Idx → α)
    (r : Fin n) (d : Fin m) : byRows hn w (ix2 r d)
      = w (r / 16) (by have := r.isLt; omega) (ix2 ⟨r % 16, by omega⟩ d) := by
  unfold byRows
  refine congrArg (w _ _) (funext fun i => ?_)
  match i with
  | ⟨0, _⟩ => rfl
  | ⟨1, _⟩ => rfl

/-- A plane of row chunks at a row and a column. -/
theorem byPlane_at {n m k : ℕ} {α : Type} (hn : n ≤ 16 * k) (w : (j : ℕ) → j < k → (⟨3, ![1, 16, m]⟩ : Shape).Idx → α)
    (o : Fin 1) (r : Fin n) (d : Fin m) : byPlane hn w (ix3 o r d)
      = w (r / 16) (by have := r.isLt; omega) (ix3 o ⟨r % 16, by omega⟩ d) := by
  unfold byPlane
  refine congrArg (w _ _) (funext fun i => ?_)
  match i with
  | ⟨0, _⟩ => rfl
  | ⟨1, _⟩ => rfl
  | ⟨2, _⟩ => rfl

/-- Sixteen rows' norm is the norm of each row. -/
theorem lnN_at (g b : Vec Ideal S1x1024 .f32) (z : FVec Ideal S16x1024 .f32) (r : Fin 16) (d : Fin 1024) :
    lnN g b z (ix2 r d) = Ref.normed (fun k => z (ix2 r k)) (g (ix2 0 d)) (b (ix2 0 d)) d := by
  unfold lnN lnC lnMean
  pointwise
  rfl

/-- Sixteen rows as one plane. -/
theorem plane16_at (z : FVec Ideal S16x1024 .f32) (o : Fin 1) (r : Fin 16) (d : Fin 1024) :
    shapeCast S1x16x1024 z shapeCasts_S16x1024_S1x16x1024 (ix3 o r d) = z (ix2 r d) := by
  pointwise

variable (V : Valuation Cert.ReferenceIdeal.τ Cert.ReferenceIdeal.sig (Elt Ideal))

/-- The parameters' blocks and the weights held are the reference's arguments. -/
structure Agrees (X : Ins Ideal) (W : Wts Ideal) : Prop where
  w30 : ∀ k n, W.w30 (ix2 k n) = Ref.wIn V k n
  x5 : ∀ n, X.x5 (ix2 0 n) = Ref.bIn V n
  x6 : ∀ s n, X.x6 (ix3 0 s n) = Ref.tapM V s n
  x7 : ∀ n, X.x7 (ix2 0 n) = Ref.cbM V n
  w31 : ∀ k n, W.w31 (ix2 k n) = Ref.wOut V k n
  x8 : ∀ n, X.x8 (ix2 0 n) = Ref.bOut V n
  x9 : ∀ n, X.x9 (ix2 1 n) = Ref.scM V n
  x10 : ∀ n, X.x10 (ix2 1 n) = Ref.shM V n
  w32 : ∀ k n, W.w32 (ix2 k n) = Ref.wUp V k n
  x11 : ∀ n, X.x11 (ix2 1 n) = Ref.bUp V n
  x12 : ∀ s n, X.x12 (ix3 1 s n) = Ref.tapF V s n
  x13 : ∀ n, X.x13 (ix2 1 n) = Ref.cbF V n
  w33 : ∀ k n, W.w33 (ix2 k n) = Ref.wDn V k n
  x14 : ∀ n, X.x14 (ix2 1 n) = Ref.bDn V n
  x15 : ∀ n, X.x15 (ix2 1 n) = Ref.scF V n
  x16 : ∀ n, X.x16 (ix2 1 n) = Ref.shF V n

variable {V} {X : Ins Ideal} {W : Wts Ideal} (A : Agrees V X W) {i : grid0.Coords} {b : Fin 8} {q : Fin 4}
include A

/-! ### The mixer -/

variable {x : Vec Ideal S560x1024 .f32} (hi : tileM i = BitVec.ofNat 32 q.val)
  (hx : ∀ (r : Fin 560) (p : Fin 2064) (d : Fin 1024), p.val + 16 = 512 * q.val + r.val → x (ix2 r d) = Ref.h0 V b p d)
include hi hx

/-- A chunk of the gated product. -/
theorem sV_eq (j : ℕ) (hj : j < 4) (r : Fin 560) (p : Fin 2066) (hp : p.val + 15 = 512 * q.val + r.val) (d : Fin 256) :
    sV i x W.w30 X.x5 j hj (ix2 r d) = Ref.s V b p ⟨256 * j + d, by omega⟩ := by
  unfold sV mixS
  pointwise [win2]
  rw [hi, okX_at q r]
  by_cases h : p.val = 0 ∨ p.val = 2065
  · rw [Ref.s_out V b p h, if_neg (by omega)]
    rfl
  · rw [if_pos (by omega), Ref.s_in V b p ⟨p - 1, by omega⟩ (by simp only; omega), Ref.u_at, Ref.u_at]
    simp only [A.w30, A.x5, fun k => hx r ⟨p - 1, by omega⟩ k (by simp only; omega), Nat.add_assoc]
    rfl

/-- The mixer's rows before the second product. -/
theorem yA_eq (r : Fin 544) (p : Fin 2064) (hp : p.val + 8 = 512 * q.val + r.val) (d : Fin 1024) :
    yA i x W.w30 X.x5 X.x6 X.x7 (ix2 r d) = Ref.y V b p d := by
  have hd : 256 * (d.val / 256) + d.val % 256 = d.val := by omega
  unfold yA
  refine (byCols_at _ _ r d).trans ?_
  unfold yV mixY
  pointwise [win2]
  unfold Ref.y
  rw [sV_eq A hi hx _ _ ⟨8 + r, by omega⟩ ⟨1 + p, by omega⟩ (by simp only; omega),
    sV_eq A hi hx _ _ ⟨7 + r, by omega⟩ ⟨p, by omega⟩ (by simp only; omega),
    sV_eq A hi hx _ _ ⟨9 + r, by omega⟩ ⟨2 + p, by omega⟩ (by simp only; omega), Ref.u_at]
  simp only [A.w30, A.x5, A.x6, A.x7, fun k => hx ⟨8 + r, by omega⟩ p k (by simp only; omega), hd]
  rw [mul_comm (Ref.tapM V 1 d), mul_comm (Ref.tapM V 0 d), mul_comm (Ref.tapM V 2 d), add_comm (_ * Ref.tapM V 1 d)]

/-- The mixer's result. -/
theorem mix_eq (r : Fin 544) (p : Fin 2064) (hp : p.val + 8 = 512 * q.val + r.val) (d : Fin 1024) :
    hA x (yA i x W.w30 X.x5 X.x6 X.x7) W.w31 X.x8 X.x9 X.x10 (ix2 r d) = Ref.h1 V b p d := by
  unfold hA
  refine (byRows_at _ _ r d).trans ?_
  unfold hV
  rw [lnN_at, Ref.h1_at]
  have hz : ∀ k : Fin 1024, lnZ X.x8 (window x ![8 + 16 * (r.val / 16), 0] ![16, 1024] (inb2 (by omega) (by omega)))
      (if h : r.val / 16 < 17 then rows (pM (yA i x W.w30 X.x5 X.x6 X.x7) W.w31 0 (by decide)) (16 * (r.val / 16)) (slices16 (by omega))
        else rows (pM (yA i x W.w30 X.x5 X.x6 X.x7) W.w31 272 (by decide)) (16 * (r.val / 16 - 17)) (slices16 (by omega)))
        (ix2 ⟨r.val % 16, by omega⟩ k) = Ref.z1 V b p k := by
    intro k
    rw [Ref.z1_at]
    unfold lnZ
    split
    · unfold rows pM
      pointwise [win2]
      simp only [A.w31, A.x8, hx ⟨8 + 16 * (r.val / 16) + r.val % 16, by omega⟩ p k (by simp only; omega),
        fun d => yA_eq A hi hx ⟨16 * (r.val / 16) + r.val % 16, by omega⟩ p (by simp only; omega) d]
    · unfold rows pM
      pointwise [win2]
      simp only [A.w31, A.x8, hx ⟨8 + 16 * (r.val / 16) + r.val % 16, by omega⟩ p k (by simp only; omega),
        fun d => yA_eq A hi hx ⟨272 + (16 * (r.val / 16 - 17) + r.val % 16), by omega⟩ p (by simp only; omega) d]
  rw [funext hz]
  pointwise [row1, win2]
  rw [← A.x9, ← A.x10]
omit hi hx

/-! ### The feed forward -/

variable {H : Vec Ideal S544x1024 .f32} (hf : tileF i = BitVec.ofNat 32 q.val)
  (hH : ∀ (r : Fin 544) (p : Fin 2064) (d : Fin 1024), p.val + 8 = 512 * q.val + r.val → H (ix2 r d) = Ref.h1 V b p d)
include hf hH

/-- A chunk of the gate. -/
theorem gV_eq (j : ℕ) (hj : j < 11) (r : Fin 544) (p : Fin 2066) (hp : p.val + 7 = 512 * q.val + r.val) (d : Fin 256) :
    gV i H W.w32 X.x11 j hj (ix2 r d) = Ref.gt V b p ⟨256 * j + d, by omega⟩ := by
  unfold gV ffnG
  pointwise [win2]
  unfold okF
  rw [hf, okF_at q r]
  by_cases h : p.val = 0 ∨ p.val = 2065
  · rw [Ref.gt_out V b p h, if_neg (by omega)]
    rfl
  · rw [if_pos (by omega), Ref.gt_in V b p ⟨p - 1, by omega⟩ (by simp only; omega), Ref.e_at]
    simp only [A.w32, A.x11, fun k => hH r ⟨p - 1, by omega⟩ k (by simp only; omega)]
    rfl

/-- The activation. -/
theorem aA_eq (r : Fin 528) (p : Fin 2064) (hp : p.val = 512 * q.val + r.val) (d : Fin 2816) :
    aA i H W.w32 X.x11 X.x12 X.x13 (ix2 r d) = Ref.act V b p d := by
  have hd : 256 * (d.val / 256) + d.val % 256 = d.val := by omega
  unfold aA
  refine (byCols_at _ _ r d).trans ?_
  unfold aV ffnA ffnC
  pointwise [win2, win3]
  unfold Ref.act
  rw [gV_eq A hf hH _ _ ⟨8 + r, by omega⟩ ⟨1 + p, by omega⟩ (by simp only; omega),
    gV_eq A hf hH _ _ ⟨7 + r, by omega⟩ ⟨p, by omega⟩ (by simp only; omega),
    gV_eq A hf hH _ _ ⟨9 + r, by omega⟩ ⟨2 + p, by omega⟩ (by simp only; omega), Ref.e_at]
  simp only [A.w32, A.x11, A.x12, A.x13, fun k => hH ⟨8 + r, by omega⟩ p k (by simp only; omega), hd, Nat.add_assoc]
  rw [mul_comm (Ref.tapF V 1 d), mul_comm (Ref.tapF V 0 d), mul_comm (Ref.tapF V 2 d), add_comm (_ * Ref.tapF V 1 d),
    ← Ref.gc_at]
  rfl

/-- The output tile. -/
theorem out_eq (o : Fin 1) (r : Fin 512) (p : Fin 2064) (hp : p.val = 512 * q.val + r.val + 16) (d : Fin 1024) :
    oA H (aA i H W.w32 X.x11 X.x12 X.x13) W.w33 X.x14 X.x15 X.x16 (ix3 o r d)
      = Ref.normed (Ref.z2 V b p) (Ref.scF V d) (Ref.shF V d) d := by
  unfold oA
  refine (byPlane_at _ _ o r d).trans ?_
  unfold oV
  have hz : ∀ k : Fin 1024, lnZ (row1 X.x14) (window H ![24 + 16 * (r.val / 16), 0] ![16, 1024] (inb2 (by omega) (by omega)))
      (if h : r.val / 16 < 15 then rows (pF1 (aA i H W.w32 X.x11 X.x12 X.x13) W.w33) (16 + 16 * (r.val / 16)) (slices16 (by omega))
        else rows (pF2 (aA i H W.w32 X.x11 X.x12 X.x13) W.w33) (16 * (r.val / 16 - 15)) (slices16 (by omega)))
        (ix2 ⟨r.val % 16, by omega⟩ k) = Ref.z2 V b p k := by
    intro k
    rw [Ref.z2_at]
    unfold lnZ
    split
    · unfold rows pF1
      pointwise [win2, row1]
      simp only [A.w33, A.x14, hH ⟨24 + 16 * (r.val / 16) + r.val % 16, by omega⟩ p k (by simp only; omega),
        fun d => aA_eq A hf hH ⟨16 + 16 * (r.val / 16) + r.val % 16, by omega⟩ p (by simp only; omega) d]
    · unfold rows pF2
      pointwise [win2, row1]
      simp only [A.w33, A.x14, hH ⟨24 + 16 * (r.val / 16) + r.val % 16, by omega⟩ p k (by simp only; omega),
        fun d => aA_eq A hf hH ⟨256 + (16 * (r.val / 16 - 15) + r.val % 16), by omega⟩ p (by simp only; omega) d]
  refine (plane16_at _ o _ d).trans ?_
  rw [lnN_at, funext hz]
  pointwise [row1, win2]
  rw [← A.x15, ← A.x16]

end Cert.Proof
-- ==== Proof.Value.lean ====
/-
  The result array after the kernel's run is the reference's result.
-/
module

public import proofs.«01_k».proof.Proof.Run
public import proofs.«01_k».proof.Proof.Rowsum

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)
open VecWindow

variable (V' : Valuation Cert.ReferenceIdeal.τ Cert.ReferenceIdeal.sig (Elt Ideal))
variable (m : (ℓ : Loc nD τ sig) → Buf (Elt Ideal) ℓ) (c : Dev nD)

/-- The launched arguments are the reference's. -/
structure Shared : Prop where
  a0 : ∀ b p d, (m ((c.tc : Thread nD τ).loc main_arg0) : FVec Ideal S8x2048x1024 .f32) (ix3 b p d) = Ref.xIn V' b p d
  a1 : ∀ b p d, (m ((c.tc : Thread nD τ).loc main_arg1) : FVec Ideal S8x16x1024 .f32) (ix3 b p d) = Ref.mIn V' b p d
  a2 : ∀ k n, (m ((c.tc : Thread nD τ).loc main_arg2) : FVec Ideal S1x1024x3072 .f32) (ix3 0 k n) = Ref.wIn V' k n
  a3 : ∀ n, (m ((c.tc : Thread nD τ).loc main_arg3) : FVec Ideal S1x3072 .f32) (ix2 0 n) = Ref.bIn V' n
  a4 : ∀ s n, (m ((c.tc : Thread nD τ).loc main_arg4) : FVec Ideal S1x3x1024 .f32) (ix3 0 s n) = Ref.tapM V' s n
  a5 : ∀ n, (m ((c.tc : Thread nD τ).loc main_arg5) : FVec Ideal S1x1024 .f32) (ix2 0 n) = Ref.cbM V' n
  a6 : ∀ k n, (m ((c.tc : Thread nD τ).loc main_arg6) : FVec Ideal S1x1024x1024 .f32) (ix3 0 k n) = Ref.wOut V' k n
  a7 : ∀ n, (m ((c.tc : Thread nD τ).loc main_arg7) : FVec Ideal S1x1024 .f32) (ix2 0 n) = Ref.bOut V' n
  a8 : ∀ n, (m ((c.tc : Thread nD τ).loc main_arg8) : FVec Ideal S2x1024 .f32) (ix2 1 n) = Ref.scM V' n
  a9 : ∀ n, (m ((c.tc : Thread nD τ).loc main_arg9) : FVec Ideal S2x1024 .f32) (ix2 1 n) = Ref.shM V' n
  a10 : ∀ k n, (m ((c.tc : Thread nD τ).loc main_arg10) : FVec Ideal S2x1024x5632 .f32) (ix3 1 k n) = Ref.wUp V' k n
  a11 : ∀ n, (m ((c.tc : Thread nD τ).loc main_arg11) : FVec Ideal S2x5632 .f32) (ix2 1 n) = Ref.bUp V' n
  a12 : ∀ s n, (m ((c.tc : Thread nD τ).loc main_arg12) : FVec Ideal S2x3x2816 .f32) (ix3 1 s n) = Ref.tapF V' s n
  a13 : ∀ n, (m ((c.tc : Thread nD τ).loc main_arg13) : FVec Ideal S2x2816 .f32) (ix2 1 n) = Ref.cbF V' n
  a14 : ∀ k n, (m ((c.tc : Thread nD τ).loc main_arg14) : FVec Ideal S2x2816x1024 .f32) (ix3 1 k n) = Ref.wDn V' k n
  a15 : ∀ n, (m ((c.tc : Thread nD τ).loc main_arg15) : FVec Ideal S2x1024 .f32) (ix2 1 n) = Ref.bDn V' n
  a16 : ∀ n, (m ((c.tc : Thread nD τ).loc main_arg16) : FVec Ideal S2x1024 .f32) (ix2 1 n) = Ref.scF V' n
  a17 : ∀ n, (m ((c.tc : Thread nD τ).loc main_arg17) : FVec Ideal S2x1024 .f32) (ix2 1 n) = Ref.shF V' n

/-! ### Where the blocks sit -/

/-- The blocks of the activations, of the meta rows and of the result at a grid point. -/
theorem idx_x : ∀ t : Fin cfg0.N,
    win0_0.index t = ![min t.val 31 / 4, 8 * (min t.val 31 % 4) - 1, 0]
      ∧ win0_1.index t = ![min t.val 31 / 4, min t.val 31 % 4, 0]
      ∧ win0_2.index t = ![min t.val 31 / 4, min (16 * (min t.val 31 % 4 + 1)) 63, 0]
      ∧ win0_3.index t = ![min t.val 31 / 4, 0, 0]
      ∧ win0_16.index t = ![(t.val - 1) / 4, (t.val - 1) % 4, 0] :=
  (by decide +kernel : ∀ t : Fin grid0.N, _)

/-- The parameters' blocks are their whole arrays. -/
theorem idx_p : ∀ t : Fin cfg0.N, win0_4.index t = ![0, 0] ∧ win0_5.index t = ![0, 0, 0] ∧ win0_6.index t = ![0, 0]
      ∧ win0_7.index t = ![0, 0] ∧ win0_8.index t = ![0, 0] ∧ win0_9.index t = ![0, 0] ∧ win0_10.index t = ![0, 0]
      ∧ win0_11.index t = ![0, 0, 0] ∧ win0_12.index t = ![0, 0] ∧ win0_13.index t = ![0, 0] ∧ win0_14.index t = ![0, 0]
      ∧ win0_15.index t = ![0, 0] :=
  (by decide +kernel : ∀ t : Fin grid0.N, _)

/-- The first grid point writes nothing back. -/
theorem flush_pos : ∀ t : Fin cfg0.N, (cfg0.win 16).flush t = true → 1 ≤ t.val :=
  (by decide +kernel : ∀ t : Fin grid0.N, _)

variable {V' m c}

/-- At every grid point the parameters read are the reference's. -/
theorem agrees (S : Shared V' m c) (t : Fin cfg0.N) : Agrees V' (ins m c t) (near (far m c)) where
  w30 k n := by rw [← S.a2]; unfold near far wt; pointwise; rfl
  w31 k n := by rw [← S.a6]; unfold near far wt; pointwise; rfl
  w32 k n := by rw [← S.a10]; unfold near far wt; pointwise; rfl
  w33 k n := by rw [← S.a14]; unfold near far wt; pointwise; rfl
  x5 n := by rw [← S.a3]; dsimp only [ins]; blk_ext [iblk, V, idx_p t]
  x6 s n := by rw [← S.a4]; dsimp only [ins]; blk_ext [iblk, V, idx_p t]
  x7 n := by rw [← S.a5]; dsimp only [ins]; blk_ext [iblk, V, idx_p t]
  x8 n := by rw [← S.a7]; dsimp only [ins]; blk_ext [iblk, V, idx_p t]
  x9 n := by rw [← S.a8]; dsimp only [ins]; blk_ext [iblk, V, idx_p t]
  x10 n := by rw [← S.a9]; dsimp only [ins]; blk_ext [iblk, V, idx_p t]
  x11 n := by rw [← S.a11]; dsimp only [ins]; blk_ext [iblk, V, idx_p t]
  x12 s n := by rw [← S.a12]; dsimp only [ins]; blk_ext [iblk, V, idx_p t]
  x13 n := by rw [← S.a13]; dsimp only [ins]; blk_ext [iblk, V, idx_p t]
  x14 n := by rw [← S.a15]; dsimp only [ins]; blk_ext [iblk, V, idx_p t]
  x15 n := by rw [← S.a16]; dsimp only [ins]; blk_ext [iblk, V, idx_p t]
  x16 n := by rw [← S.a17]; dsimp only [ins]; blk_ext [iblk, V, idx_p t]

/-! ### The tile with its neighbours' rows -/

/-- A block of rows put into a matrix, at one of its rows. -/
theorem put_in {α : Type} {N M n a : ℕ} (x : (⟨2, ![N, M]⟩ : Shape).Idx → α) (w : (⟨2, ![n, M]⟩ : Shape).Idx → α)
    (r : Fin N) (d : Fin M) (h : a ≤ r.val) (h' : r.val < a + n) :
    put x ![a, 0] ![n, M] w (ix2 r d) = w (ix2 ⟨r - a, by omega⟩ d) := by
  unfold put
  rw [dif_pos (fun i => by
    match i with
    | ⟨0, _⟩ => exact ⟨h, h'⟩
    | ⟨1, _⟩ => exact ⟨Nat.zero_le _, by show d.val < 0 + M; omega⟩)]
  refine congrArg w (funext fun i => Fin.ext ?_)
  match i with
  | ⟨0, _⟩ => rfl
  | ⟨1, _⟩ => rfl

/-- A block of rows put into a matrix, at another row. -/
theorem put_out {α : Type} {N M n a : ℕ} (x : (⟨2, ![N, M]⟩ : Shape).Idx → α) (w : (⟨2, ![n, M]⟩ : Shape).Idx → α)
    (r : Fin N) (d : Fin M) (h : r.val < a ∨ a + n ≤ r.val) : put x ![a, 0] ![n, M] w (ix2 r d) = x (ix2 r d) := by
  unfold put
  rw [dif_neg (fun hc => by
    have h0 : a ≤ r.val ∧ r.val < a + n := hc 0
    omega)]

/-- The kernel's test for the first tile of a sequence. -/
theorem sel_at : ∀ q : Fin 4, Scalar.cmpi .eq (BitVec.ofNat 32 q.val) 0#32 = if q.val = 0 then 1#1 else 0#1 := by decide

/-- Where the row is a position of the layer's input, it is that position's row. -/
theorem xe_eq (S : Shared V' m c) (t : Fin cfg0.N) (b : Fin 8) (q : Fin 4) (ht : min t.val 31 = 4 * b.val + q.val)
    (r : Fin 560) (p : Fin 2064) (d : Fin 1024) (hp : p.val + 16 = 512 * q.val + r.val) :
    xe (grid0.coords t) (ins m c t).x1 (ins m c t).x2 (ins m c t).x3 (ins m c t).x4 (ix2 r d) = Ref.h0 V' b p d := by
  have hi : tileM (grid0.coords t) = BitVec.ofNat 32 q.val := by
    rw [tileM_at, ht]; congr 1; omega
  rw [Ref.h0_at]
  unfold xe xeOver
  by_cases h3 : 544 ≤ r.val
  · rw [dif_neg (by omega), ← S.a0]
    refine (put_in _ _ r d h3 (by omega)).trans ?_
    unfold k0_pay49
    pointwise [win3]
    dsimp only [ins]
    blk_ext [iblk, V, idx_x t]
  refine (put_out _ _ r d (by omega)).trans ?_
  by_cases h2 : 32 ≤ r.val
  · rw [dif_neg (by omega), ← S.a0]
    refine (put_in _ _ r d h2 (by omega)).trans ?_
    unfold k0_pay48
    pointwise [win3]
    dsimp only [ins]
    blk_ext [iblk, V, idx_x t]
  refine (put_out _ _ r d (by omega)).trans ?_
  by_cases h1 : 16 ≤ r.val
  · refine (put_in _ _ r d h1 (by omega)).trans ?_
    have e : ∀ (v w : Vec Ideal S1x16x1024 .f32) (r : Fin 16), k0_pay47 (grid0.coords t) v w (ix2 r d)
        = if q.val = 0 then v (ix3 0 r d) else w (ix3 0 r d) := by
      intro v w r
      unfold k0_pay47
      have hs := sel_at q
      rw [← hi] at hs
      unfold tileM at hs
      simp only [hs]
      split
      · pointwise
      · pointwise
    refine (e _ _ _).trans ?_
    by_cases hq : q.val = 0
    · rw [if_pos hq, dif_pos (by omega), ← S.a1]
      refine (win3 _ _ _ _ _).trans ?_
      dsimp only [ins]
      blk_ext [iblk, V, idx_x t]
    · rw [if_neg hq, dif_neg (by omega), ← S.a0]
      refine (win3 _ _ _ _ _).trans ?_
      dsimp only [ins]
      blk_ext [iblk, V, idx_x t]
  refine (put_out _ _ r d (by omega)).trans ?_
  rw [dif_neg (by omega), ← S.a0]
  refine (put_in _ _ r d (by omega) (by omega)).trans ?_
  unfold k0_pay46
  pointwise [win3]
  dsimp only [ins]
  blk_ext [iblk, V, idx_x t]

/-- The rows carried past grid point `t` are the mixer's result. -/
theorem hid_eq (S : Shared V' m c) (t : Fin cfg0.N) (b : Fin 8) (q : Fin 4) (ht : t.val = 4 * b.val + q.val)
    (r : Fin 544) (p : Fin 2064) (d : Fin 1024) (hp : p.val + 8 = 512 * q.val + r.val) :
    hid m c (t.val + 1) (ix2 r d) = Ref.h1 V' b p d := by
  have hb : min t.val 31 = 4 * b.val + q.val := by omega
  have hi : tileM (grid0.coords t) = BitVec.ofNat 32 q.val := by
    rw [tileM_at, hb]; congr 1; omega
  rw [hid_succ]
  unfold mixOf
  exact mix_eq (agrees S t) hi (fun r p d h => xe_eq S t b q hb r p d h) r p hp d

/-- The output tile is the reference's result at the tile's place. -/
theorem tile_eq (S : Shared V' m c) (t : Fin cfg0.N) (h1 : 1 ≤ t.val) (o : Fin 1) (r : Fin 512) (d : Fin 1024) (b : Fin 8)
    (p : Fin 2048) (hb : b.val = (t.val - 1) / 4) (hp : p.val = 512 * ((t.val - 1) % 4) + r.val) :
    tile m c t (ix3 o r d) = Ref.result V' (ix3 b p d) := by
  have hN : t.val < 33 := t.isLt
  have hq : (t.val - 1) % 4 < 4 := Nat.mod_lt _ (by decide)
  have hi : tileF (grid0.coords t) = BitVec.ofNat 32 ((⟨(t.val - 1) % 4, hq⟩ : Fin 4)).val := tileF_at t
  unfold tile outOf
  rw [Ref.result_at]
  refine out_eq (agrees S t) hi (fun r p d h => ?_) o r ⟨16 + p, by omega⟩ (by simp only; omega) d
  have := hid_eq S (⟨t.val - 1, by omega⟩ : Fin cfg0.N) b ⟨(t.val - 1) % 4, hq⟩ (by simp only; omega) r p d h
  rwa [show t.val - 1 + 1 = t.val by omega] at this

/-- The result array after the run. -/
theorem final (S : Shared V' m c) : (dats m 0 c).arrAt 16 (cfgs 0).N = Ref.result V' := by
  refine (dats m 0 c).arrAt_eq_of_covers 16 _ (by decide +kernel) fun t hf y => ?_
  have h1 := flush_pos t hf
  blk_simp
  idx_vars y
  have hN : t.val < 33 := t.isLt
  refine (tile_eq S t h1 y0 y1 y2 ⟨(t.val - 1) / 4, by omega⟩ ⟨512 * ((t.val - 1) % 4) + y1.val, by omega⟩ rfl rfl).trans
    (congrArg (Ref.result V') ?_)
  blk_ext [idx_x t]

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs and leaves its arguments and semaphores as they were: its text is the idealized kernel's. -/
theorem frame_kernel : Cert.quiescent_Kernel := fun m ρ _ => by
  rw [same_defs]
  exact kept_main (F := Bits) m ρ

/-- The idealized kernel runs and leaves its arguments and semaphores as they were. -/
theorem frame_kernelIdeal : Cert.quiescent_KernelIdeal := fun m ρ _ => kept_main (F := Ideal) m ρ

/-- The reference runs and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals both programs end with the reference's result. -/
theorem algebraic : Cert.algebraic_KernelIdeal_ReferenceIdeal := fun m g m' g' _ hargs => by
  have S : ∀ c, Shared (StableHlo.launchContents m' c) m c := fun c =>
    have h := hargs c
    ⟨fun _ _ _ => congrFun h.1.symm _, fun _ _ _ => congrFun h.2.1.symm _, fun _ _ => congrFun h.2.2.1.symm _, fun
      _ => congrFun h.2.2.2.1.symm _, fun _ _ => congrFun h.2.2.2.2.1.symm _, fun _ => congrFun h.2.2.2.2.2.1.symm
      _, fun _ _ => congrFun h.2.2.2.2.2.2.1.symm _, fun _ => congrFun h.2.2.2.2.2.2.2.1.symm _, fun _ => congrFun
      h.2.2.2.2.2.2.2.2.1.symm _, fun _ => congrFun h.2.2.2.2.2.2.2.2.2.1.symm _, fun _ _ => congrFun
      h.2.2.2.2.2.2.2.2.2.2.1.symm _, fun _ => congrFun h.2.2.2.2.2.2.2.2.2.2.2.1.symm _, fun _ _ => congrFun
      h.2.2.2.2.2.2.2.2.2.2.2.2.1.symm _, fun _ => congrFun h.2.2.2.2.2.2.2.2.2.2.2.2.2.1.symm _, fun _ _ =>
      congrFun h.2.2.2.2.2.2.2.2.2.2.2.2.2.2.1.symm _, fun _ => congrFun h.2.2.2.2.2.2.2.2.2.2.2.2.2.2.2.1.symm _,
      fun _ => congrFun h.2.2.2.2.2.2.2.2.2.2.2.2.2.2.2.2.1.symm _, fun _ => congrFun
      h.2.2.2.2.2.2.2.2.2.2.2.2.2.2.2.2.2.symm _⟩
  refine ⟨fun c => Ref.result (StableHlo.launchContents m' c), ?_, ?_⟩
  · refine (θ_run Cert.KernelIdeal.defs _ _).mono (fun r h c => ⟨((h.1 c).1 16).trans (final (S c)), args_kept m h c⟩)
      (run_main (F := Ideal) m g)
  · exact (θ_run Cert.ReferenceIdeal.defs _ _).mono (fun r h c => ⟨(h c).1, (h c).2⟩)
      (Cert.ReferenceIdeal.Value.run (F := Ideal) m' g')

/-- The five claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
